-- ==== Defs.lean ====
def Pre_Kernel [hPre_slots_ok : Cert.Pre_slots_ok.Facts] (m : (ℓ : Loc Cert.Kernel.nD Cert.Kernel.τ Cert.Kernel.sig) → Buf (Elt Bits) ℓ) : Prop :=
  ∀ c : Dev Cert.Kernel.nD,
    (Cert.Pre_slots_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_slots_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2 = (fun _ => 1#1)

def Pre_KernelIdeal [hPre_slots_ok : Cert.Pre_slots_ok.Facts] (m : (ℓ : Loc Cert.KernelIdeal.nD Cert.KernelIdeal.τ Cert.KernelIdeal.sig) → Buf (Elt Ideal) ℓ) : Prop :=
  ∀ c : Dev Cert.KernelIdeal.nD,
    (Cert.Pre_slots_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_slots_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_KernelIdeal_one_nearest [hPre_one_nearest : Cert.Pre_one_nearest.Facts] (m : (ℓ : Loc Cert.KernelIdeal.nD Cert.KernelIdeal.τ Cert.KernelIdeal.sig) → Buf (Elt Ideal) ℓ) : Prop :=
  ∀ c : Dev Cert.KernelIdeal.nD,
    (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_nearest [hPre_one_nearest : Cert.Pre_one_nearest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] [hPre_slots_ok : Cert.Pre_slots_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_slots_ok : Cert.Pre_slots_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_one_nearest [hKernelIdeal : Cert.KernelIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_nearest m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_one_nearest [hReferenceIdeal : Cert.ReferenceIdeal.Facts] [hPre_one_nearest : Cert.Pre_one_nearest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_nearest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0x4E6E6B28#32 ⊤

def algebraic_KernelIdeal_ReferenceIdeal_pre_one_nearest [hKernelIdeal : Cert.KernelIdeal.Facts] [hReferenceIdeal : Cert.ReferenceIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_nearest m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_slots_ok : Cert.Pre_slots_ok.Facts) (hPre_one_nearest : Cert.Pre_one_nearest.Facts),
    quiescent_Kernel (hKernel := hKernel) (hPre_slots_ok := hPre_slots_ok)
    ∧ quiescent_KernelIdeal (hKernelIdeal := hKernelIdeal) (hPre_slots_ok := hPre_slots_ok)
    ∧ quiescent_KernelIdeal_pre_one_nearest (hKernelIdeal := hKernelIdeal) (hPre_one_nearest := hPre_one_nearest)
    ∧ quiescent_ReferenceIdeal (hReferenceIdeal := hReferenceIdeal)
    ∧ quiescent_ReferenceIdeal_pre_one_nearest (hReferenceIdeal := hReferenceIdeal) (hPre_one_nearest := hPre_one_nearest)
    ∧ preserves_Kernel_KernelIdeal
    ∧ algebraic_KernelIdeal_ReferenceIdeal_pre_one_nearest (hKernelIdeal := hKernelIdeal) (hReferenceIdeal := hReferenceIdeal) (hPre_one_nearest := hPre_one_nearest)
-- ==== Pre_one_nearest.lean ====
abbrev S1024x128 : Shape := ⟨2, ![1024, 128]⟩
abbrev S4x65536x128 : Shape := ⟨3, ![4, 65536, 128]⟩
abbrev S4x512x128 : Shape := ⟨3, ![4, 512, 128]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S2048x128 : Shape := ⟨2, ![2048, 128]⟩
abbrev S2048 : Shape := ⟨1, ![2048]⟩
abbrev S1x2048 : Shape := ⟨2, ![1, 2048]⟩
abbrev S128x2048 : Shape := ⟨2, ![128, 2048]⟩
abbrev S1024x2048 : Shape := ⟨2, ![1024, 2048]⟩

class Facts : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  shapeCasts_S4x512x128_S2048x128 : S4x512x128.ShapeCasts S2048x128
  bcast_S_S1024x128 : S_.BroadcastsInDim S1024x128 (![] : Fin 0 → Fin S1024x128.rank)
  bcast_S_S2048x128 : S_.BroadcastsInDim S2048x128 (![] : Fin 0 → Fin S2048x128.rank)
  reducesTo_S2048x128_S2048_d1 : S2048x128.ReducesTo [1] S2048
  h_S_ : 0 < S_.numel
  bcast_S2048_S1x2048_1 : S2048.BroadcastsInDim S1x2048 (![1] : Fin 1 → Fin S1x2048.rank)
  transposes_S2048x128_S128x2048_1_0 : S2048x128.Transposes [1, 0] S128x2048
  bcast_S_S1024x2048 : S_.BroadcastsInDim S1024x2048 (![] : Fin 0 → Fin S1024x2048.rank)
  bcast_S1x2048_S1024x2048_0_1 : S1x2048.BroadcastsInDim S1024x2048 (![0, 1] : Fin 2 → Fin S1024x2048.rank)
  bcast_S_S1024x1 : S_.BroadcastsInDim S1024x1 (![] : Fin 0 → Fin S1024x1.rank)
  bcast_S1024x1_S1024x2048_0_1 : S1024x1.BroadcastsInDim S1024x2048 (![0, 1] : Fin 2 → Fin S1024x2048.rank)
  reducesTo_S1024x2048_S1024_d1 : S1024x2048.ReducesTo [1] S1024
  dot_S1024x128_S128x2048_S1024x2048_1_0_0_1_n_n_wf : DotDims.WF S1024x128 S128x2048 S1024x2048 [1] [0] [0] [1] [] []

variable [Facts]

variable {F : FTy → Type} [FloatOps F]
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_where {F : FTy → Type} [FloatOps F] (arg0 : IVec S1024x2048 1) (arg1 : FVec F S1024x2048 .f32) (arg2 : FVec F S_ .f32) : FVec F S1024x2048 .f32 :=
  let v0 : FVec F S_ .f32 := id arg2
  let v1 : FVec F S1024x2048 .f32 := broadcastInDim S1024x2048 ![] bcast_S_S1024x2048 v0
  let v2 : FVec F S1024x2048 .f32 := select arg0 arg1 v1
  v2

def fn_argmin {F : FTy → Type} [FloatOps F] (arg0 : FVec F S1024x2048 .f32) : IVec S1024 32 :=
  let v0 : IVec S1024x2048 32 := iotaInDim S1024x2048 32 1
  let cst : FVec F S_ .f32 := constant S_ .f32 0x7F800000#32
  let c : IVec S_ 32 := constantI S_ 32 0#32
  let v1_0 : FVec F S1024 .f32 := (fun x y u v j => (Host.argReduce reducer_argmin_f32_i32 x y u v reducesTo_S1024x2048_S1024_d1 h_S_ j).1) arg0 v0 cst c
  let v1_1 : IVec S1024 32 := (fun x y u v j => (Host.argReduce reducer_argmin_f32_i32 x y u v reducesTo_S1024x2048_S1024_d1 h_S_ j).2) arg0 v0 cst c
  v1_1

def fn_part3 {F : FTy → Type} [FloatOps F] (main_v14 : IVec S1024 1) (main_v25 : IVec S1024x1024 1) (main_v29 : IVec S1024x128 1) (main_v32 : IVec S2048x128 1) (main_v41 : FVec F S1024x2048 .f32) (main_v43 : IVec S1x2048 32) (main_v58 : IVec S1024x2048 1) (main_cst_10 : FVec F S_ .f32) : IVec S1024 1 × IVec S1024x1024 1 × IVec S1024x128 1 × IVec S2048x128 1 × IVec S1024x2048 1 :=
  let main_v59 : FVec F S1024x2048 .f32 := fn_where (F := F) main_v58 main_v41 main_cst_10
  let main_v60 : IVec S1024 32 := fn_argmin (F := F) main_v59
  let main_cst_11 : FVec F S_ .f32 := constant S_ .f32 0x7F800000#32
  let main_v61 : FVec F S1024 .f32 := (fun x v => Host.reduce FloatOps.minimumf x v reducesTo_S1024x2048_S1024_d1 h_S_) main_v59 main_cst_11
  let main_v62 : FVec F S1024x1 .f32 := broadcastInDim S1024x1 ![0] bcast_S1024_S1024x1_0 main_v61
  let main_v63 : FVec F S1024x2048 .f32 := broadcastInDim S1024x2048 ![0, 1] bcast_S1024x1_S1024x2048_0_1 main_v62
  let main_v64 : IVec S1024x2048 1 := cmpf .ogt main_v59 main_v63
  let main_v65 : IVec S1024x1 32 := broadcastInDim S1024x1 ![0] bcast_S1024_S1024x1_0 main_v60
  let main_v66 : IVec S1024x2048 32 := broadcastInDim S1024x2048 ![0, 1] bcast_S1x2048_S1024x2048_0_1 main_v43
  let main_v67 : IVec S1024x2048 32 := broadcastInDim S1024x2048 ![0, 1] bcast_S1024x1_S1024x2048_0_1 main_v65
  let main_v68 : IVec S1024x2048 1 := cmpi .eq main_v66 main_v67
  let main_v69 : IVec S1024x2048 1 := ori main_v64 main_v68
  (main_v14, main_v25, main_v29, main_v32, main_v69)

def fn_part2 {F : FTy → Type} [FloatOps F] (main_arg3 : IVec S1024 32) (main_v14 : IVec S1024 1) (main_v25 : IVec S1024x1024 1) (main_v29 : IVec S1024x128 1) (main_v32 : IVec S2048x128 1) (main_v35 : FVec F S1x2048 .f32) (main_v37 : FVec F S1024x2048 .f32) (main_v38 : FVec F S1024x2048 .f32) : IVec S1024 1 × IVec S1024x1024 1 × IVec S1024x128 1 × IVec S2048x128 1 × IVec S1024x2048 1 :=
  let main_v39 : FVec F S1024x2048 .f32 := mulf main_v38 main_v37
  let main_v40 : FVec F S1024x2048 .f32 := broadcastInDim S1024x2048 ![0, 1] bcast_S1x2048_S1024x2048_0_1 main_v35
  let main_v41 : FVec F S1024x2048 .f32 := subf main_v40 main_v39
  let main_v42 : IVec S2048 32 := iotaInDim S2048 32 0
  let main_v43 : IVec S1x2048 32 := broadcastInDim S1x2048 ![1] bcast_S2048_S1x2048_1 main_v42
  let main_v44 : IVec S1024x1 32 := broadcastInDim S1024x1 ![0] bcast_S1024_S1024x1_0 main_arg3
  let main_c_7 : IVec S_ 32 := constantI S_ 32 512#32
  let main_v45 : IVec S1024x1 32 := broadcastInDim S1024x1 ![] bcast_S_S1024x1 main_c_7
  let main_v46 : IVec S1024x1 32 := muli main_v44 main_v45
  let main_v47 : IVec S1024x2048 32 := broadcastInDim S1024x2048 ![0, 1] bcast_S1x2048_S1024x2048_0_1 main_v43
  let main_v48 : IVec S1024x2048 32 := broadcastInDim S1024x2048 ![0, 1] bcast_S1024x1_S1024x2048_0_1 main_v46
  let main_v49 : IVec S1024x2048 1 := cmpi .sge main_v47 main_v48
  let main_v50 : IVec S1024x1 32 := broadcastInDim S1024x1 ![0] bcast_S1024_S1024x1_0 main_arg3
  let main_c_8 : IVec S_ 32 := constantI S_ 32 512#32
  let main_v51 : IVec S1024x1 32 := broadcastInDim S1024x1 ![] bcast_S_S1024x1 main_c_8
  let main_v52 : IVec S1024x1 32 := muli main_v50 main_v51
  let main_c_9 : IVec S_ 32 := constantI S_ 32 512#32
  let main_v53 : IVec S1024x1 32 := broadcastInDim S1024x1 ![] bcast_S_S1024x1 main_c_9
  let main_v54 : IVec S1024x1 32 := addi main_v52 main_v53
  let main_v55 : IVec S1024x2048 32 := broadcastInDim S1024x2048 ![0, 1] bcast_S1x2048_S1024x2048_0_1 main_v43
  let main_v56 : IVec S1024x2048 32 := broadcastInDim S1024x2048 ![0, 1] bcast_S1024x1_S1024x2048_0_1 main_v54
  let main_v57 : IVec S1024x2048 1 := cmpi .slt main_v55 main_v56
  let main_v58 : IVec S1024x2048 1 := andi main_v49 main_v57
  let main_cst_10 : FVec F S_ .f32 := constant S_ .f32 0x7F800000#32
  fn_part3 (F := F) main_v14 main_v25 main_v29 main_v32 main_v41 main_v43 main_v58 main_cst_10

def fn_part1 {F : FTy → Type} [FloatOps F] (main_arg0 : FVec F S1024x128 .f32) (main_arg2 : FVec F S4x512x128 .f32) (main_arg3 : IVec S1024 32) (main_v3 : IVec S1024 32) (main_v14 : IVec S1024 1) (main_v17 : IVec S1024x1024 32) (main_v18 : IVec S1024x1024 32) : IVec S1024 1 × IVec S1024x1024 1 × IVec S1024x128 1 × IVec S2048x128 1 × IVec S1024x2048 1 :=
  let main_v19 : IVec S1024x1024 1 := cmpi .ne main_v17 main_v18
  let main_v20 : IVec S1024x1 32 := broadcastInDim S1024x1 ![0] bcast_S1024_S1024x1_0 main_v3
  let main_v21 : IVec S1x1024 32 := broadcastInDim S1x1024 ![1] bcast_S1024_S1x1024_1 main_v3
  let main_v22 : IVec S1024x1024 32 := broadcastInDim S1024x1024 ![0, 1] bcast_S1024x1_S1024x1024_0_1 main_v20
  let main_v23 : IVec S1024x1024 32 := broadcastInDim S1024x1024 ![0, 1] bcast_S1x1024_S1024x1024_0_1 main_v21
  let main_v24 : IVec S1024x1024 1 := cmpi .eq main_v22 main_v23
  let main_v25 : IVec S1024x1024 1 := ori main_v19 main_v24
  let main_v26 : FVec F S2048x128 .f32 := shapeCast S2048x128 main_arg2 shapeCasts_S4x512x128_S2048x128
  let main_v27 : FVec F S1024x128 .f32 := Host.absf main_arg0
  let main_cst : FVec F S_ .f32 := constant S_ .f32 0x7F800000#32
  let main_v28 : FVec F S1024x128 .f32 := broadcastInDim S1024x128 ![] bcast_S_S1024x128 main_cst
  let main_v29 : IVec S1024x128 1 := cmpf .olt main_v27 main_v28
  let main_v30 : FVec F S2048x128 .f32 := Host.absf main_v26
  let main_cst_4 : FVec F S_ .f32 := constant S_ .f32 0x7F800000#32
  let main_v31 : FVec F S2048x128 .f32 := broadcastInDim S2048x128 ![] bcast_S_S2048x128 main_cst_4
  let main_v32 : IVec S2048x128 1 := cmpf .olt main_v30 main_v31
  let main_v33 : FVec F S2048x128 .f32 := mulf main_v26 main_v26
  let main_cst_5 : FVec F S_ .f32 := constant S_ .f32 0x00000000#32
  let main_v34 : FVec F S2048 .f32 := (fun x v => Host.reduceAdd x v reducesTo_S2048x128_S2048_d1 h_S_) main_v33 main_cst_5
  let main_v35 : FVec F S1x2048 .f32 := broadcastInDim S1x2048 ![1] bcast_S2048_S1x2048_1 main_v34
  let main_v36 : FVec F S128x2048 .f32 := (transpose S128x2048 [1, 0] · transposes_S2048x128_S128x2048_1_0) main_v26
  let main_v37 : FVec F S1024x2048 .f32 := (fun l r => Host.dotGeneral dot_S1024x128_S128x2048_S1024x2048_1_0_0_1_n_n none l r) main_arg0 main_v36
  let main_cst_6 : FVec F S_ .f32 := constant S_ .f32 0x40000000#32
  let main_v38 : FVec F S1024x2048 .f32 := broadcastInDim S1024x2048 ![] bcast_S_S1024x2048 main_cst_6
  fn_part2 (F := F) main_arg3 main_v14 main_v25 main_v29 main_v32 main_v35 main_v37 main_v38

def fn {F : FTy → Type} [FloatOps F] (main_arg0 : FVec F S1024x128 .f32) (main_arg1 : FVec F S4x65536x128 .f32) (main_arg2 : FVec F S4x512x128 .f32) (main_arg3 : IVec S1024 32) (main_arg4 : IVec S1024 32) : IVec S1024 1 × IVec S1024x1024 1 × IVec S1024x128 1 × IVec S2048x128 1 × IVec S1024x2048 1 :=
  let main_c : IVec S_ 32 := constantI S_ 32 65536#32
  let main_v0 : IVec S1024 32 := broadcastInDim S1024 ![] bcast_S_S1024 main_c
  let main_v1 : IVec S1024 32 := muli main_arg3 main_v0
  let main_v2 : IVec S1024 32 := addi main_v1 main_arg4
  let main_v3 : IVec S1024 32 := iotaInDim S1024 32 0
  let main_c_0 : IVec S_ 32 := constantI S_ 32 0#32
  let main_v4 : IVec S1024 32 := broadcastInDim S1024 ![] bcast_S_S1024 main_c_0
  let main_v5 : IVec S1024 1 := cmpi .sge main_arg3 main_v4
  let main_c_1 : IVec S_ 32 := constantI S_ 32 4#32
  let main_v6 : IVec S1024 32 := broadcastInDim S1024 ![] bcast_S_S1024 main_c_1
  let main_v7 : IVec S1024 1 := cmpi .slt main_arg3 main_v6
  let main_v8 : IVec S1024 1 := andi main_v5 main_v7
  let main_c_2 : IVec S_ 32 := constantI S_ 32 0#32
  let main_v9 : IVec S1024 32 := broadcastInDim S1024 ![] bcast_S_S1024 main_c_2
  let main_v10 : IVec S1024 1 := cmpi .sge main_arg4 main_v9
  let main_v11 : IVec S1024 1 := andi main_v8 main_v10
  let main_c_3 : IVec S_ 32 := constantI S_ 32 65536#32
  let main_v12 : IVec S1024 32 := broadcastInDim S1024 ![] bcast_S_S1024 main_c_3
  let main_v13 : IVec S1024 1 := cmpi .slt main_arg4 main_v12
  let main_v14 : IVec S1024 1 := andi main_v11 main_v13
  let main_v15 : IVec S1024x1 32 := broadcastInDim S1024x1 ![0] bcast_S1024_S1024x1_0 main_v2
  let main_v16 : IVec S1x1024 32 := broadcastInDim S1x1024 ![1] bcast_S1024_S1x1024_1 main_v2
  let main_v17 : IVec S1024x1024 32 := broadcastInDim S1024x1024 ![0, 1] bcast_S1024x1_S1024x1024_0_1 main_v15
  let main_v18 : IVec S1024x1024 32 := broadcastInDim S1024x1024 ![0, 1] bcast_S1x1024_S1024x1024_0_1 main_v16
  fn_part1 (F := F) main_arg0 main_arg2 main_arg3 main_v3 main_v14 main_v17 main_v18
-- ==== Pre_slots_ok.lean ====
abbrev S1024x128 : Shape := ⟨2, ![1024, 128]⟩
abbrev S4x65536x128 : Shape := ⟨3, ![4, 65536, 128]⟩
abbrev S4x512x128 : Shape := ⟨3, ![4, 512, 128]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩

class Facts : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)

variable [Facts]

def fn_part1 {F : FTy → Type} [FloatOps F] (main_v3 : IVec S1024 32) (main_v14 : IVec S1024 1) (main_v17 : IVec S1024x1024 32) (main_v18 : IVec S1024x1024 32) : IVec S1024 1 × IVec S1024x1024 1 :=
  let main_v19 : IVec S1024x1024 1 := cmpi .ne main_v17 main_v18
  let main_v20 : IVec S1024x1 32 := broadcastInDim S1024x1 ![0] bcast_S1024_S1024x1_0 main_v3
  let main_v21 : IVec S1x1024 32 := broadcastInDim S1x1024 ![1] bcast_S1024_S1x1024_1 main_v3
  let main_v22 : IVec S1024x1024 32 := broadcastInDim S1024x1024 ![0, 1] bcast_S1024x1_S1024x1024_0_1 main_v20
  let main_v23 : IVec S1024x1024 32 := broadcastInDim S1024x1024 ![0, 1] bcast_S1x1024_S1024x1024_0_1 main_v21
  let main_v24 : IVec S1024x1024 1 := cmpi .eq main_v22 main_v23
  let main_v25 : IVec S1024x1024 1 := ori main_v19 main_v24
  (main_v14, main_v25)

def fn {F : FTy → Type} [FloatOps F] (main_arg0 : FVec F S1024x128 .f32) (main_arg1 : FVec F S4x65536x128 .f32) (main_arg2 : FVec F S4x512x128 .f32) (main_arg3 : IVec S1024 32) (main_arg4 : IVec S1024 32) : IVec S1024 1 × IVec S1024x1024 1 :=
  let main_c : IVec S_ 32 := constantI S_ 32 65536#32
  let main_v0 : IVec S1024 32 := broadcastInDim S1024 ![] bcast_S_S1024 main_c
  let main_v1 : IVec S1024 32 := muli main_arg3 main_v0
  let main_v2 : IVec S1024 32 := addi main_v1 main_arg4
  let main_v3 : IVec S1024 32 := iotaInDim S1024 32 0
  let main_c_0 : IVec S_ 32 := constantI S_ 32 0#32
  let main_v4 : IVec S1024 32 := broadcastInDim S1024 ![] bcast_S_S1024 main_c_0
  let main_v5 : IVec S1024 1 := cmpi .sge main_arg3 main_v4
  let main_c_1 : IVec S_ 32 := constantI S_ 32 4#32
  let main_v6 : IVec S1024 32 := broadcastInDim S1024 ![] bcast_S_S1024 main_c_1
  let main_v7 : IVec S1024 1 := cmpi .slt main_arg3 main_v6
  let main_v8 : IVec S1024 1 := andi main_v5 main_v7
  let main_c_2 : IVec S_ 32 := constantI S_ 32 0#32
  let main_v9 : IVec S1024 32 := broadcastInDim S1024 ![] bcast_S_S1024 main_c_2
  let main_v10 : IVec S1024 1 := cmpi .sge main_arg4 main_v9
  let main_v11 : IVec S1024 1 := andi main_v8 main_v10
  let main_c_3 : IVec S_ 32 := constantI S_ 32 65536#32
  let main_v12 : IVec S1024 32 := broadcastInDim S1024 ![] bcast_S_S1024 main_c_3
  let main_v13 : IVec S1024 1 := cmpi .slt main_arg4 main_v12
  let main_v14 : IVec S1024 1 := andi main_v11 main_v13
  let main_v15 : IVec S1024x1 32 := broadcastInDim S1024x1 ![0] bcast_S1024_S1024x1_0 main_v2
  let main_v16 : IVec S1x1024 32 := broadcastInDim S1x1024 ![1] bcast_S1024_S1x1024_1 main_v2
  let main_v17 : IVec S1024x1024 32 := broadcastInDim S1024x1024 ![0, 1] bcast_S1024x1_S1024x1024_0_1 main_v15
  let main_v18 : IVec S1024x1024 32 := broadcastInDim S1024x1024 ![0, 1] bcast_S1x1024_S1024x1024_0_1 main_v16
  fn_part1 (F := F) main_v3 main_v14 main_v17 main_v18
-- ==== Kernel.lean ====
abbrev S1024x128 : Shape := ⟨2, ![1024, 128]⟩
abbrev S4x65536x128 : Shape := ⟨3, ![4, 65536, 128]⟩
abbrev S4x512x128 : Shape := ⟨3, ![4, 512, 128]⟩
abbrev S1024 : Shape := ⟨1, ![1024]⟩
abbrev S2048x128 : Shape := ⟨2, ![2048, 128]⟩
abbrev S1024x1 : Shape := ⟨2, ![1024, 1]⟩
abbrev S262144x128 : Shape := ⟨2, ![262144, 128]⟩
abbrev S_ : Shape := ⟨0, ![]⟩
abbrev S256x1 : Shape := ⟨2, ![256, 1]⟩
abbrev S256x128 : Shape := ⟨2, ![256, 128]⟩
abbrev S256x5 : Shape := ⟨2, ![256, 5]⟩
abbrev S128x1 : Shape := ⟨2, ![128, 1]⟩
abbrev S2048x1 : Shape := ⟨2, ![2048, 1]⟩
abbrev S2048x5 : Shape := ⟨2, ![2048, 5]⟩
abbrev S256x133 : Shape := ⟨2, ![256, 133]⟩
abbrev S2048x133 : Shape := ⟨2, ![2048, 133]⟩
abbrev S256x2048 : Shape := ⟨2, ![256, 2048]⟩
abbrev S256 : Shape := ⟨1, ![256]⟩
abbrev S1 : Shape := ⟨1, ![1]⟩
abbrev S1x128 : Shape := ⟨2, ![1, 128]⟩

abbrev nBuf : Space → Nat
  | .hbm => 13
  | .vmem => 6
  | .smem => 1
  | _ => 0

abbrev bufTy : (tb : Table) → Fin (tcTables nBuf tb) → BufTy
  | .hbm, ⟨0, _⟩ => ⟨S1024x128, .f32⟩
  | .hbm, ⟨1, _⟩ => ⟨S4x65536x128, .f32⟩
  | .hbm, ⟨2, _⟩ => ⟨S4x512x128, .f32⟩
  | .hbm, ⟨3, _⟩ => ⟨S1024, .i32⟩
  | .hbm, ⟨4, _⟩ => ⟨S1024, .i32⟩
  | .hbm, ⟨5, _⟩ => ⟨S2048x128, .f32⟩
  | .hbm, ⟨6, _⟩ => ⟨S1024x1, .i32⟩
  | .hbm, ⟨7, _⟩ => ⟨S262144x128, .f32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S262144x128, .f32⟩
  | .hbm, ⟨12, _⟩ => ⟨S4x65536x128, .f32⟩
  | .local _ .vmem, ⟨0, _⟩ => ⟨S256x1, .i32⟩
  | .local _ .vmem, ⟨1, _⟩ => ⟨S256x1, .i32⟩
  | .local _ .vmem, ⟨2, _⟩ => ⟨S256x128, .f32⟩
  | .local _ .vmem, ⟨3, _⟩ => ⟨S256x128, .f32⟩
  | .local _ .vmem, ⟨4, _⟩ => ⟨S2048x128, .f32⟩
  | .local _ .vmem, ⟨5, _⟩ => ⟨S1024x128, .f32⟩
  | .local _ .smem, ⟨0, _⟩ => ⟨S1024, .i32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v6 : Ref sig .tc := ⟨.hbm, 11, rfl⟩
abbrev main_v7 : Ref sig .tc := ⟨.hbm, 12, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let c256_i32 : BitVec 32 := 256#32
  let v77 : BitVec 32 := Scalar.muli arg0 c256_i32
  let v78 : Index := Scalar.indexCast v77
  let c0_24 : Index := 0#32
  ![v78.toNat, 0]
@[reducible] def k0_t1_loop : Scf.Loop 32 :=
  let c0_i32_25 : BitVec 32 := 0#32
  let c256_i32_26 : BitVec 32 := 256#32
  let v82 : BitVec 32 := Scalar.addi c0_i32_25 c256_i32_26
  let c1_i32_27 : BitVec 32 := 1#32
  ⟨c0_i32_25, v82, c1_i32_27⟩
def k0_off2 (i : grid0.Coords) (k0_t1 : Fin k0_t1_loop.trips) : Fin 1 → Nat :=
  let arg0 : BitVec 32 := BitVec.ofNat 32 (i 0).val
  let c256_i32_30 : BitVec 32 := 256#32
  let v86 : BitVec 32 := Scalar.muli arg0 c256_i32_30
  let c0_i32_25 : BitVec 32 := 0#32
  let c1_i32_27 : BitVec 32 := 1#32
  let arg9 : BitVec 32 := Scf.iv c0_i32_25 c1_i32_27 k0_t1
  let v87 : BitVec 32 := Scalar.addi v86 arg9
  let v88 : Index := Scalar.indexCast v87
  ![v88.toNat]
def k0_off3 (v89 : BitVec 32) : Fin 2 → Nat :=
  let c0_i32_31 : BitVec 32 := 0#32
  ![v89.toNat, 0]

def k0_chk1 (v89 : BitVec 32) : Prop :=
  (∀ a, (k0_off3 v89) a + S1x128.size a ≤ S262144x128.size a)
theorem k0_off3_inb : ∀ (v89 : BitVec 32) (k0_hw1 : k0_chk1 v89), ∀ a, (k0_off3 v89) a + S1x128.size a ≤ S262144x128.size a := fun v89 k0_hw1 => k0_hw1

def k0_off4 (i : grid0.Coords) (k0_t1 : Fin k0_t1_loop.trips) : Fin 2 → Nat :=
  let arg0 : BitVec 32 := BitVec.ofNat 32 (i 0).val
  let c256_i32_30 : BitVec 32 := 256#32
  let v86 : BitVec 32 := Scalar.muli arg0 c256_i32_30
  let c0_i32_25 : BitVec 32 := 0#32
  let c1_i32_27 : BitVec 32 := 1#32
  let arg9 : BitVec 32 := Scf.iv c0_i32_25 c1_i32_27 k0_t1
  let v87 : BitVec 32 := Scalar.addi v86 arg9
  let c0_i32_32 : BitVec 32 := 0#32
  ![v87.toNat, 0]
def k0_cond1 (i : grid0.Coords) : BitVec 1 :=
  let arg0 : BitVec 32 := BitVec.ofNat 32 (i 0).val
  let c3_i32 : BitVec 32 := 3#32
  let v83 : BitVec 1 := Scalar.cmpi .eq arg0 c3_i32
  let v84 : BitVec 32 := Scalar.extui v83
  let c0_i32_29 : BitVec 32 := 0#32
  let v85 : BitVec 1 := Scalar.cmpi .ne v84 c0_i32_29
  v85

@[reducible] def k0_t2_loop : Scf.Loop 32 :=
  let c0_i32_30 : BitVec 32 := 0#32
  let c1024_i32 : BitVec 32 := 1024#32
  let v86 : BitVec 32 := Scalar.addi c0_i32_30 c1024_i32
  let c1_i32_31 : BitVec 32 := 1#32
  ⟨c0_i32_30, v86, c1_i32_31⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "mask" => some ⊤
  | _ => none
-- ==== ReferenceIdeal.lean ====
abbrev S1024x128 : Shape := ⟨2, ![1024, 128]⟩
abbrev S4x65536x128 : Shape := ⟨3, ![4, 65536, 128]⟩
abbrev S4x512x128 : Shape := ⟨3, ![4, 512, 128]⟩
abbrev S1024 : Shape := ⟨1, ![1024]⟩
abbrev S2048x128 : Shape := ⟨2, ![2048, 128]⟩
abbrev S128x2048 : Shape := ⟨2, ![128, 2048]⟩
abbrev S1024x2048 : Shape := ⟨2, ![1024, 2048]⟩
abbrev S_ : Shape := ⟨0, ![]⟩
abbrev S2048 : Shape := ⟨1, ![2048]⟩
abbrev S1x2048 : Shape := ⟨2, ![1, 2048]⟩
abbrev S1024x1 : Shape := ⟨2, ![1024, 1]⟩
abbrev S512 : Shape := ⟨1, ![512]⟩
abbrev S1x512 : Shape := ⟨2, ![1, 512]⟩
abbrev S1024x512 : Shape := ⟨2, ![1024, 512]⟩
abbrev S1024x512x1 : Shape := ⟨3, ![1024, 512, 1]⟩
abbrev S1 : Shape := ⟨1, ![1]⟩
abbrev S1x1x1 : Shape := ⟨3, ![1, 1, 1]⟩
abbrev S1x1 : Shape := ⟨2, ![1, 1]⟩
abbrev S1024x2 : Shape := ⟨2, ![1024, 2]⟩

abbrev nBuf : Space → Nat
  | .hbm => 102
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S4x65536x128, .f32⟩
  | .hbm, ⟨2, _⟩ => ⟨S4x512x128, .f32⟩
  | .hbm, ⟨3, _⟩ => ⟨S1024, .i32⟩
  | .hbm, ⟨4, _⟩ => ⟨S1024, .i32⟩
  | .hbm, ⟨5, _⟩ => ⟨S2048x128, .f32⟩
  | .hbm, ⟨6, _⟩ => ⟨S128x2048, .f32⟩
  | .hbm, ⟨7, _⟩ => ⟨S1024x2048, .f32⟩
  | .hbm, ⟨8, _⟩ => ⟨S2048x128, .f32⟩
  | .hbm, ⟨9, _⟩ => ⟨S_, .f32⟩
  | .hbm, ⟨10, _⟩ => ⟨S2048, .f32⟩
  | .hbm, ⟨11, _⟩ => ⟨S1x2048, .f32⟩
  | .hbm, ⟨12, _⟩ => ⟨S_, .f32⟩
  | .hbm, ⟨13, _⟩ => ⟨S1024x2048, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1024x1, .i32⟩
  | .hbm, ⟨18, _⟩ => ⟨S_, .i32⟩
  | .hbm, ⟨19, _⟩ => ⟨S1024x1, .i32⟩
  | .hbm, ⟨20, _⟩ => ⟨S1024x1, .i32⟩
  | .hbm, ⟨21, _⟩ => ⟨S512, .i32⟩
  | .hbm, ⟨22, _⟩ => ⟨S1x512, .i32⟩
  | .hbm, ⟨23, _⟩ => ⟨S1024x512, .i32⟩
  | .hbm, ⟨24, _⟩ => ⟨S1024x512, .i32⟩
  | .hbm, ⟨25, _⟩ => ⟨S1024x512, .i32⟩
  | .hbm, ⟨26, _⟩ => ⟨S_, .i32⟩
  | .hbm, ⟨27, _⟩ => ⟨S1024x512, .i32⟩
  | .hbm, ⟨28, _⟩ => ⟨S1024x512, .i1⟩
  | .hbm, ⟨29, _⟩ => ⟨S_, .i32⟩
  | .hbm, ⟨30, _⟩ => ⟨S1024x512, .i32⟩
  | .hbm, ⟨31, _⟩ => ⟨S1024x512, .i32⟩
  | .hbm, ⟨32, _⟩ => ⟨S1024x512, .i32⟩
  | .hbm, ⟨33, _⟩ => ⟨S1024x512x1, .i32⟩
  | .hbm, ⟨34, _⟩ => ⟨S1, .i32⟩
  | .hbm, ⟨35, _⟩ => ⟨S_, .i32⟩
  | .hbm, ⟨36, _⟩ => ⟨S1024x512x1, .i32⟩
  | .hbm, ⟨37, _⟩ => ⟨S1024x512x1, .i1⟩
  | .hbm, ⟨38, _⟩ => ⟨S1x1x1, .i32⟩
  | .hbm, ⟨39, _⟩ => ⟨S1024x512x1, .i32⟩
  | .hbm, ⟨40, _⟩ => ⟨S1024x512x1, .i1⟩
  | .hbm, ⟨41, _⟩ => ⟨S1024x512x1, .i1⟩
  | .hbm, ⟨42, _⟩ => ⟨S_, .i1⟩
  | .hbm, ⟨43, _⟩ => ⟨S1024x512, .i1⟩
  | .hbm, ⟨44, _⟩ => ⟨S1024x512, .f32⟩
  | .hbm, ⟨45, _⟩ => ⟨S_, .f32⟩
  | .hbm, ⟨46, _⟩ => ⟨S1024x512, .f32⟩
  | .hbm, ⟨47, _⟩ => ⟨S1024x512, .f32⟩
  | .hbm, ⟨48, _⟩ => ⟨S1024x512, .i32⟩
  | .hbm, ⟨49, _⟩ => ⟨S_, .f32⟩
  | .hbm, ⟨50, _⟩ => ⟨S_, .i32⟩
  | .hbm, ⟨51, _⟩ => ⟨S1024, .f32⟩
  | .hbm, ⟨52, _⟩ => ⟨S1024, .i32⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S1024, .i32⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S_, .i32⟩
  | .hbm, ⟨61, _⟩ => ⟨S1024, .i32⟩
  | .hbm, ⟨62, _⟩ => ⟨S1024, .i32⟩
  | .hbm, ⟨63, _⟩ => ⟨S1024, .i32⟩
  | .hbm, ⟨64, _⟩ => ⟨S1024x1, .i32⟩
  | .hbm, ⟨65, _⟩ => ⟨S1, .i32⟩
  | .hbm, ⟨66, _⟩ => ⟨S_, .i32⟩
  | .hbm, ⟨67, _⟩ => ⟨S1024x1, .i32⟩
  | .hbm, ⟨68, _⟩ => ⟨S1024x1, .i1⟩
  | .hbm, ⟨69, _⟩ => ⟨S1x1, .i32⟩
  | .hbm, ⟨70, _⟩ => ⟨S1024x1, .i32⟩
  | .hbm, ⟨71, _⟩ => ⟨S1024x1, .i1⟩
  | .hbm, ⟨72, _⟩ => ⟨S1024x1, .i1⟩
  | .hbm, ⟨73, _⟩ => ⟨S_, .i1⟩
  | .hbm, ⟨74, _⟩ => ⟨S1024, .i1⟩
  | .hbm, ⟨75, _⟩ => ⟨S1024x128, .f32⟩
  | .hbm, ⟨76, _⟩ => ⟨S1024x128, .i1⟩
  | .hbm, ⟨77, _⟩ => ⟨S_, .f32⟩
  | .hbm, ⟨78, _⟩ => ⟨S1024x128, .f32⟩
  | .hbm, ⟨79, _⟩ => ⟨S1024x128, .f32⟩
  | .hbm, ⟨80, _⟩ => ⟨S_, .f32⟩
  | .hbm, ⟨81, _⟩ => ⟨S1024x128, .f32⟩
  | .hbm, ⟨82, _⟩ => ⟨S1024x128, .f32⟩
  | .hbm, ⟨83, _⟩ => ⟨S1024x128, .f32⟩
  | .hbm, ⟨84, _⟩ => ⟨S_, .i32⟩
  | .hbm, ⟨85, _⟩ => ⟨S1024, .i32⟩
  | .hbm, ⟨86, _⟩ => ⟨S1024, .i1⟩
  | .hbm, ⟨87, _⟩ => ⟨S_, .i32⟩
  | .hbm, ⟨88, _⟩ => ⟨S1024, .i32⟩
  | .hbm, ⟨89, _⟩ => ⟨S1024, .i32⟩
  | .hbm, ⟨90, _⟩ => ⟨S1024, .i32⟩
  | .hbm, ⟨91, _⟩ => ⟨S_, .i32⟩
  | .hbm, ⟨92, _⟩ => ⟨S1024, .i32⟩
  | .hbm, ⟨93, _⟩ => ⟨S1024, .i1⟩
  | .hbm, ⟨94, _⟩ => ⟨S_, .i32⟩
  | .hbm, ⟨95, _⟩ => ⟨S1024, .i32⟩
  | .hbm, ⟨96, _⟩ => ⟨S1024, .i32⟩
  | .hbm, ⟨97, _⟩ => ⟨S1024, .i32⟩
  | .hbm, ⟨98, _⟩ => ⟨S1024x1, .i32⟩
  | .hbm, ⟨99, _⟩ => ⟨S1024x1, .i32⟩
  | .hbm, ⟨100, _⟩ => ⟨S1024x2, .i32⟩
  | .hbm, ⟨101, _⟩ => ⟨S4x65536x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_cst : Ref sig .tc := ⟨.hbm, 45, rfl⟩
abbrev main_call0_v14 : Ref sig .tc := ⟨.hbm, 46, rfl⟩
abbrev main_v18 : Ref sig .tc := ⟨.hbm, 47, rfl⟩
abbrev main_call1_v0 : Ref sig .tc := ⟨.hbm, 48, rfl⟩
abbrev main_call1_cst : Ref sig .tc := ⟨.hbm, 49, rfl⟩
abbrev main_call1_c : Ref sig .tc := ⟨.hbm, 50, rfl⟩
abbrev main_call1_v1_0 : Ref sig .tc := ⟨.hbm, 51, rfl⟩
abbrev main_v19 : Ref sig .tc := ⟨.hbm, 52, rfl⟩
abbrev main_c_1 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v23 : Ref sig .tc := ⟨.hbm, 79, rfl⟩
abbrev main_cst_2 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_c_3 : Ref sig .tc := ⟨.hbm, 84, rfl⟩
abbrev main_v27 : Ref sig .tc := ⟨.hbm, 85, rfl⟩
abbrev main_v28 : Ref sig .tc := ⟨.hbm, 86, rfl⟩
abbrev main_c_4 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_c_5 : Ref sig .tc := ⟨.hbm, 91, rfl⟩
abbrev main_v32 : Ref sig .tc := ⟨.hbm, 92, rfl⟩
abbrev main_v33 : Ref sig .tc := ⟨.hbm, 93, rfl⟩
abbrev main_c_6 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩

abbrev nD : Nat := 1
abbrev τ : Topo := Topo.v7x

variable {F : FTy → Type} [FloatOps F]
-- ==== Proof.Rows.lean ====
/-
  The kernel's row transfers, one trip of each of its two loops: what the scratch and the bank hold, which rows a
  trip moves, what a transfer delivers. Generic in the float instance; the memory's words enter by hypotheses.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameSuffixV
public import Idealize.ShloMosaic.Lib.Batch
public import Idealize.ShloMosaic.Lib.Ring
public import Idealize.ShloMosaic.Lib.Ring.FamCut
public import Idealize.ShloMosaic.Lib.Tactic

@[expose] public section

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The counters' place in the resource algebra. -/
abbrev EC : UEmb Counters 𝕄 := countersEmb (U := Pipeline.UD sig nD τ)

/-- The bank's buffer, the scratch and the table of row numbers, whole. -/
abbrev OUT : Memref sig .tc .hbm S262144x128 .f32 := Memref.whole main_v6
abbrev SCR : Memref sig .tc .vmem S1024x128 .f32 := Memref.whole cc0_scratch0
abbrev TAB : Memref sig .tc .smem S1024 .i32 := Memref.whole main_v5

/-- One row of the bank, of the scratch; the scratch's rows from one on. -/
def outRow (n : ℕ) : Finset S262144x128.Idx := Finset.univ.filter fun x => (x 0).val = n
def scrRow (n : ℕ) : Finset S1024x128.Idx := Finset.univ.filter fun x => (x 0).val = n
def scrFrom (n : ℕ) : Finset S1024x128.Idx := Finset.univ.filter fun x => n ≤ (x 0).val

theorem mem_outRow {n : ℕ} {x : S262144x128.Idx} : x ∈ outRow n ↔ (x 0).val = n := by
  simp only [outRow, Finset.mem_filter, Finset.mem_univ, true_and]
theorem mem_scrRow {n : ℕ} {x : S1024x128.Idx} : x ∈ scrRow n ↔ (x 0).val = n := by
  simp only [scrRow, Finset.mem_filter, Finset.mem_univ, true_and]
theorem mem_scrFrom {n : ℕ} {x : S1024x128.Idx} : x ∈ scrFrom n ↔ n ≤ (x 0).val := by
  simp only [scrFrom, Finset.mem_filter, Finset.mem_univ, true_and]

theorem outRow_disjoint {n n' : ℕ} (h : n ≠ n') : Disjoint (outRow n) (outRow n') := by
  rw [Finset.disjoint_left]; intro x hx hx'; rw [mem_outRow] at hx hx'; omega
theorem scrRow_disjoint {n n' : ℕ} (h : n ≠ n') : Disjoint (scrRow n) (scrRow n') := by
  rw [Finset.disjoint_left]; intro x hx hx'; rw [mem_scrRow] at hx hx'; omega
theorem scrRow_from_disjoint (n : ℕ) : Disjoint (scrRow n) (scrFrom (n + 1)) := by
  rw [Finset.disjoint_left]; intro x hx hx'; rw [mem_scrRow] at hx; rw [mem_scrFrom] at hx'; omega
theorem scrFrom_head (n : ℕ) : scrFrom n = scrRow n ∪ scrFrom (n + 1) := by
  ext x; rw [Finset.mem_union, mem_scrFrom, mem_scrRow, mem_scrFrom]; omega
theorem scrFrom_zero : scrFrom 0 = Finset.univ := by
  ext x; simp only [mem_scrFrom, Nat.zero_le, Finset.mem_univ]

/-- The row a transfer writes and the row it reads, as the kernel names them. -/
def dstM (v : BitVec 32) (h : k0_chk1 v) : Memref sig .tc .hbm S1x128 .f32 :=
  OUT.slice (Rect.unit (s := S262144x128) (k0_off3 v) S1x128.size (k0_off3_inb v h)) (fun _ => rfl)
def srcM (i : grid0.Coords) (k : Fin k0_t1_loop.trips) : Memref sig .tc .vmem S1x128 .f32 :=
  SCR.slice (Rect.unit (s := S1024x128) (k0_off4 i k) S1x128.size (k0_off4_inb i k)) (fun _ => rfl)

theorem trips1 : k0_t1_loop.trips = 256 := by decide
theorem trips2 : k0_t2_loop.trips = 1024 := by decide

/-- The index arithmetic of a trip: sample `256 i + k`. -/
theorem off4_zero (i : grid0.Coords) (k : Fin k0_t1_loop.trips) : k0_off4 i k 0 = 256 * (i 0).val + k.val := by
  have hi : (i 0).val < 4 := (i 0).isLt
  have hk : k.val < 256 := trips1 ▸ k.isLt
  simp only [k0_off4, Matrix.cons_val_zero, Scalar.addi, Scalar.muli, Scf.iv, IntOp.addi, IntOp.muli, BitVec.toNat_add, BitVec.toNat_mul, BitVec.toNat_ofNat]
  omega
theorem off2_zero (i : grid0.Coords) (k : Fin k0_t1_loop.trips) : k0_off2 i k 0 = 256 * (i 0).val + k.val := by
  have hi : (i 0).val < 4 := (i 0).isLt
  have hk : k.val < 256 := trips1 ▸ k.isLt
  simp only [k0_off2, Matrix.cons_val_zero, Scalar.indexCast, Scalar.addi, Scalar.muli, Scf.iv, IntOp.addi, IntOp.muli, BitVec.toNat_add, BitVec.toNat_mul, BitVec.toNat_ofNat]
  omega
theorem off1_zero (i : grid0.Coords) : k0_off1 i 0 = 256 * (i 0).val := by
  have hi : (i 0).val < 4 := (i 0).isLt
  simp only [k0_off1, Matrix.cons_val_zero, Scalar.indexCast, Scalar.addi, Scalar.muli, Scf.iv, IntOp.addi, IntOp.muli, BitVec.toNat_add, BitVec.toNat_mul, BitVec.toNat_ofNat]
  omega

theorem dst_set (v : BitVec 32) (h : k0_chk1 v) : (dstM v h).view.set = outRow v.toNat := by
  refine (show (dstM v h).view.set = (Rect.unit (s := S262144x128) (k0_off3 v) S1x128.size (k0_off3_inb v h)).set from View.set_slice_whole _ _).trans
    (Finset.ext fun (x : S262144x128.Idx) => (Rect.mem_set_unit (s := S262144x128)).trans (Iff.trans ?_ mem_outRow.symm))
  constructor
  · intro hx
    have := hx 0
    simp only [k0_off3, Matrix.cons_val_zero] at this
    omega
  · intro hx a
    have h1 : (x 1).val < 128 := (x 1).isLt
    fin_cases a
    · simp only [k0_off3]; constructor
      · exact hx.ge
      · show (x 0).val < v.toNat + 1; omega
    · exact ⟨Nat.zero_le _, by show (x 1).val < 0 + 128; omega⟩

theorem src_set (i : grid0.Coords) (k : Fin k0_t1_loop.trips) : (srcM i k).view.set = scrRow (256 * (i 0).val + k.val) := by
  refine (show (srcM i k).view.set = (Rect.unit (s := S1024x128) (k0_off4 i k) S1x128.size (k0_off4_inb i k)).set from View.set_slice_whole _ _).trans
    (Finset.ext fun (x : S1024x128.Idx) => (Rect.mem_set_unit (s := S1024x128)).trans (Iff.trans ?_ mem_scrRow.symm))
  have h0 := off4_zero i k
  constructor
  · intro hx
    have h1 := hx 0
    rw [h0] at h1
    have : (x 0).val < 256 * (i 0).val + k.val + 1 := h1.2
    have := h1.1
    omega
  · intro hx a
    have h1 : (x 1).val < 128 := (x 1).isLt
    fin_cases a
    · show k0_off4 i k 0 ≤ (x 0).val ∧ (x 0).val < k0_off4 i k 0 + 1
      omega
    · exact ⟨Nat.zero_le _, by show (x 1).val < 0 + 128; omega⟩

/-- Sample `t`'s place in the table. -/
def smp (t : Fin 1024) : S1024.Idx := fun a => ⟨t.val, by fin_cases a; exact t.isLt⟩

section Trips

variable (c : Dev nD) (T : Buf (Elt F) ((c : Thread nD τ).loc main_v5))
  (V6 G : Buf (Elt F) ((c : Thread nD τ).loc main_v6)) (W : S1024x128.Idx → F .f32)

/-- The bank row of sample `t`. -/
def rowOf (t : Fin 1024) : ℕ := BitVec.toNat (show BitVec 32 from T (smp t))

/-- A transfer's delivery: the bank row it wrote, at the final contents, and the scratch row it read. -/
def deliv (t : Fin 1024) : sProp 𝕄 :=
  iprop(((c : Thread nD τ).loc main_v6 ↦[outRow (rowOf c T t)]{fullShare} G)
    ∗ ∃ f, (c : Thread nD τ).loc cc0_scratch0 ↦[scrRow t.val]{fullShare} f)

instance deliv_storable (t : Fin 1024) : Storable (upEmb : UEmb _ 𝕄) (deliv c T G t) := by
  unfold deliv; infer_instance

/-- The batch of all 1024 transfers: `j` issued, `u` units consumed. One row credits `NN`. -/
abbrev NN : ℕ := (dstM 0#32 (by decide)).view.amount (SemLoc.dma (sig := sig) 5)
abbrev batch (j u : ℕ) : sProp 𝕄 :=
  Transfers.Batch EC (c : Thread nD τ) (.dma 5) () NN (deliv c T G) j u

/-- The bank rows of the samples from `j` on, as they were. -/
abbrev rowsFrom (j : ℕ) : sProp 𝕄 :=
  bigSep (Ring.rangeSet 1024 j 1024) fun t => (c : Thread nD τ).loc main_v6 ↦[outRow (rowOf c T t)]{fullShare} V6

/-- Before trip `k` of step `i`'s issue loop. -/
def issueAt (i : grid0.Coords) (k : ℕ) (_ : Unit) : sProp 𝕄 :=
  iprop(batch c T G (256 * (i 0).val + k) 0 ∗ rowsFrom c T V6 (256 * (i 0).val + k)
    ∗ ((c : Thread nD τ).loc main_v5 ↦{fullShare.right} T)
    ∗ ∃ g, ⌜∀ x : S1024x128.Idx, 256 * (i 0).val + k ≤ (x 0).val → (x 0).val < 256 * (i 0).val + 256 → g x = W x⌝
        ∗ ((c : Thread nD τ).loc cc0_scratch0 ↦[scrFrom (256 * (i 0).val + k)]{fullShare} g))

theorem NN_pos : 0 < NN := by decide
theorem dst_amount (v : BitVec 32) (h : k0_chk1 v) : (dstM v h).view.amount (SemLoc.dma (sig := sig) 5) = NN := rfl

omit c T V6 G W in
/-- One trip of the issue loop as its four steps: the word's load, the check, the transfer, the return. -/
theorem trip_eq (i : grid0.Coords) (a2 : Memref sig .tc .vmem S256x1 .i32) (h2 : a2.IsWhole) (a3 : Memref sig .tc .vmem S256x128 .f32) (h3 : a3.IsWhole)
    (a4 : Memref sig .tc .vmem S2048x128 .f32) (h4 : a4.IsWhole)
    (arg0 : BitVec 32) (v0 : Vec F S256x128 .f32) (v3 : FVec F S256x128 .bf16) (v4 : FVec F S2048x128 .bf16) (v19 : FVec F S256x5 .bf16) (v22 : FVec F S2048x1 .f32) (v23 : IVec S2048x5 32) (v24 : IVec S2048x5 32) (v26 : IVec S2048x5 1) (c512_i32 : BitVec 32) (v28 : IVec S2048x5 32) (v35 : IVec S2048x5 32) (v37 : BitVec 32) (v39 : BitVec 32)
    (k : Fin k0_t1_loop.trips) (acc : Unit) :
    k0_t1_body i TAB (Memref.isWhole_whole _) a2 h2 a3 h3 a4 h4 OUT (Memref.isWhole_whole _) OUT (Memref.isWhole_whole _) SCR (Memref.isWhole_whole _) cc0_scratch1
        arg0 v0 v3 v4 v19 v22 v23 v24 v26 c512_i32 v28 v35 v37 v39 k acc
      = smemLoadElt TAB (Rect.unit (s := S1024) (k0_off2 i k) S1.size (k0_off2_inb i k)) (View.loads_smem_one rfl numel1_S1) (Shape.Idx.first (numel1_S1.symm ▸ Nat.one_pos))
          fun v : Elt F .i32 => Prog.op (TpuEff.assume (k0_chk1 v) (k0_chk1.dec v)) fun h =>
            Prog.op (TpuEff.enqueueDmaAs (srcM i k) (.here (dstM v h.down)) .same (.dma 5) (View.wordExact_bits rfl) (View.wordExact_bits rfl) ⟨Or.inl rfl, trivial⟩) fun _ =>
              Prog.ret ⟨⟩ := rfl

omit c T V6 G W in
theorem dst_emb_zero (v : BitVec 32) (h : k0_chk1 v) (y : S1x128.Idx) : ((show S262144x128.Idx from (dstM v h).view.emb y) 0).val = v.toNat := by
  have hy : (y 0).val < 1 := (y 0).isLt
  show v.toNat + 1 * (y 0).val = v.toNat
  omega
omit c T V6 G W in
theorem dst_emb_one (v : BitVec 32) (h : k0_chk1 v) (y : S1x128.Idx) : ((show S262144x128.Idx from (dstM v h).view.emb y) 1).val = (y 1).val := by
  show 0 + 1 * (y 1).val = (y 1).val
  omega
omit c T V6 G W in
theorem src_emb_zero (i : grid0.Coords) (k : Fin k0_t1_loop.trips) (y : S1x128.Idx) : ((show S1024x128.Idx from (srcM i k).view.emb y) 0).val = 256 * (i 0).val + k.val := by
  have hy : (y 0).val < 1 := (y 0).isLt
  have h0 := off4_zero i k
  show k0_off4 i k 0 + 1 * (y 0).val = _
  omega
omit c T V6 G W in
theorem src_emb_one (i : grid0.Coords) (k : Fin k0_t1_loop.trips) (y : S1x128.Idx) : ((show S1024x128.Idx from (srcM i k).view.emb y) 1).val = (y 1).val := by
  show 0 + 1 * (y 1).val = (y 1).val
  omega

/-- What one trip's transfer leaves is its delivery. -/
theorem trip_delivers
    (hG : ∀ (t : Fin 1024) (x : S262144x128.Idx) (y : S1024x128.Idx), (x 0).val = rowOf c T t → (y 0).val = t.val → (y 1).val = (x 1).val → G x = W y)
    (i : grid0.Coords) (k : Fin k0_t1_loop.trips) (hj : 256 * (i 0).val + k.val < 1024) (w : BitVec 32) (hchk : k0_chk1 w)
    (hrow : w.toNat = rowOf c T ⟨256 * (i 0).val + k.val, hj⟩) (g : Buf (Elt F) ((c : Thread nD τ).loc cc0_scratch0))
    (hg : ∀ x : S1024x128.Idx, 256 * (i 0).val + k.val ≤ (x 0).val → (x 0).val < 256 * (i 0).val + 256 → g x = W x) :
    iprop(((dstM w hchk).view.loc (c : Thread nD τ) ↦[(dstM w hchk).view.set]{fullShare}
          ((dstM w hchk).view.write (Elt F) V6 (ReadAs.same.apply ((srcM i k).view.read (Elt F) g)) Finset.univ))
        ∗ ((srcM i k).view.loc (c : Thread nD τ) ↦[(srcM i k).view.set]{fullShare} g))
      ⊢ (deliv c T G ⟨256 * (i 0).val + k.val, hj⟩ : sProp 𝕄) := by
  have hk : k.val < 256 := trips1 ▸ k.isLt
  have hval : ∀ x ∈ (dstM w hchk).view.set, (dstM w hchk).view.write (Elt F) V6 (ReadAs.same.apply ((srcM i k).view.read (Elt F) g)) Finset.univ x = G x := by
    intro x hx
    obtain ⟨y, rfl⟩ := (show ∃ y, (dstM w hchk).view.emb y = x by obtain ⟨y, -, hy⟩ := Finset.mem_map.mp hx; exact ⟨y, hy⟩)
    refine (View.write_emb_of_mem (v := (dstM w hchk).view) V6 _ (Finset.mem_univ y)).trans ?_
    have h0 := src_emb_zero i k y
    refine Eq.trans ?_ (hG ⟨256 * (i 0).val + k.val, hj⟩ _ ((srcM i k).view.emb y) ((dst_emb_zero w hchk y).trans hrow) h0
      ((src_emb_one i k y).trans (dst_emb_one w hchk y).symm)).symm
    exact hg _ (by rw [h0]) (by rw [h0]; omega)
  rw [pointsTo_congr hval]
  unfold deliv
  rw [src_set, dst_set, hrow]
  iintro ⟨H1, H2⟩
  isplitl [H1]; · iexact H1
  iexists g; iexact H2

theorem issue_step (hT : ∀ t, rowOf c T t < 262144)
    (hG : ∀ (t : Fin 1024) (x : S262144x128.Idx) (y : S1024x128.Idx), (x 0).val = rowOf c T t → (y 0).val = t.val → (y 1).val = (x 1).val → G x = W y)
    (i : grid0.Coords) (a2 : Memref sig .tc .vmem S256x1 .i32) (h2 : a2.IsWhole) (a3 : Memref sig .tc .vmem S256x128 .f32) (h3 : a3.IsWhole)
    (a4 : Memref sig .tc .vmem S2048x128 .f32) (h4 : a4.IsWhole)
    (arg0 : BitVec 32) (v0 : Vec F S256x128 .f32) (v3 : FVec F S256x128 .bf16) (v4 : FVec F S2048x128 .bf16) (v19 : FVec F S256x5 .bf16) (v22 : FVec F S2048x1 .f32) (v23 : IVec S2048x5 32) (v24 : IVec S2048x5 32) (v26 : IVec S2048x5 1) (c512_i32 : BitVec 32) (v28 : IVec S2048x5 32) (v35 : IVec S2048x5 32) (v37 : BitVec 32) (v39 : BitVec 32)
    (k : Fin k0_t1_loop.trips) (acc : Unit) :
    issueAt c T V6 G W i k.val acc ⊢ wp frame (wpE (defs₀ (F := F)) Variants.none (c : Thread nD τ) none) Set.univ
      (k0_t1_body i TAB (Memref.isWhole_whole _) a2 h2 a3 h3 a4 h4 OUT (Memref.isWhole_whole _) OUT (Memref.isWhole_whole _) SCR (Memref.isWhole_whole _) cc0_scratch1
        arg0 v0 v3 v4 v19 v22 v23 v24 v26 c512_i32 v28 v35 v37 v39 k acc)
      (issueAt c T V6 G W i (k.val + 1)) := by
  have hi : (i 0).val < 4 := (i 0).isLt
  have hk : k.val < 256 := trips1 ▸ k.isLt
  have hj : 256 * (i 0).val + k.val < 1024 := by omega
  unfold issueAt
  rw [show rowsFrom c T V6 (256 * (i 0).val + k.val) = _ from Ring.bigSep_rangeSet_head hj hj]
  iintro ⟨HB, ⟨Hrow, Hrows⟩, HT, ⟨%g, %hg, Hscr⟩⟩
  rw [trip_eq]
  have hw : ∀ h, (TAB.access (Rect.unit (s := S1024) (k0_off2 i k) S1.size (k0_off2_inb i k))).read (Elt F) T (Shape.Idx.first h) = T (smp ⟨256 * (i 0).val + k.val, hj⟩) := by
    intro h
    rw [View.read_apply]
    refine congrArg T (funext fun a => Fin.ext ?_)
    have h0 := off2_zero i k
    fin_cases a
    show k0_off2 i k 0 + 1 * (Shape.Idx.first h 0).val = 256 * (i 0).val + k.val
    have : (Shape.Idx.first h 0).val < 1 := (Shape.Idx.first h 0).isLt
    omega
  iapply (wp_smemLoadElt_named (defs := defs₀ (F := F)) Variants.none (c : Thread nD τ) none Set.univ (m := TAB)
    (r := Rect.unit (s := S1024) (k0_off2 i k) S1.size (k0_off2_inb i k)) (S := Finset.univ) (q := fullShare.right) (f := T)) $$ HT
  iintro HT %w %hw'
  have hw2 : w = T (smp ⟨256 * (i 0).val + k.val, hj⟩) := hw'.trans (hw _)
  have hrow : BitVec.toNat (show BitVec 32 from w) = rowOf c T ⟨256 * (i 0).val + k.val, hj⟩ := by rw [hw2]; rfl
  have hchk : k0_chk1 w := by
    have hlt := hrow ▸ hT ⟨256 * (i 0).val + k.val, hj⟩
    intro a
    fin_cases a
    · show BitVec.toNat (show BitVec 32 from w) + 1 ≤ 262144; omega
    · show 0 + 128 ≤ 128; omega
  rw [wp_assume_of _ _ _ _ hchk]
  rw [scrFrom_head]
  ihave Hscr := (pointsTo_union (scrRow_from_disjoint _)).1 $$ Hscr
  icases Hscr with ⟨Hsrc, Hscr⟩
  rw [← src_set, ← hrow, ← dst_set w hchk]
  iapply (Transfers.wp_dmaBatch EC Variants.none (c : Thread nD τ) none (defs := defs₀ (F := F)) (src := srcM i k) (dst := dstM w hchk) (via := ReadAs.same) (sm := SemLoc.dma 5)
    () NN (dst_amount w hchk) (Finset.Subset.refl _) hj (Nat.zero_le _) (trip_delivers c T V6 G W hG i k hj w hchk hrow g hg)) $$ [Hsrc Hrow HB]
  · isplitl [Hsrc]; · iexact Hsrc
    isplitl [Hrow]; · iexact Hrow
    iexact HB
  iintro HB
  sl_step
  rw [← Nat.add_assoc]
  isplitl [HB]; · iexact HB
  isplitl [Hrows]; · iexact Hrows
  isplitl [HT]; · iexact HT
  iexists g
  isplitr
  · ipureintro
    exact fun x hx hx' => hg x (by omega) hx'
  iexact Hscr
end Trips

end Cert.KernelIdeal.Rows

end
-- ==== Proof.Body.lean ====
/-
  The kernel's body at a grid step: the block of blended rows it stores, its 256 issues, at the last step its 1024
  waits, and what is held before and after.
-/
module

public import proofs.«01_k».proof.Proof.Rows

@[expose] public section

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The block a step stores, of the words of its three fetched windows. -/
def pay (d0 : Vec F S256x1 .i32) (d1 : Vec F S256x128 .f32) (d2 : Vec F S2048x128 .f32) : Vec F S256x128 .f32 :=
  k0_pay9 d1 (k0_pay2 d1) (k0_pay3 d2) (k0_pay4 d0) (k0_pay5 d2) (iota .tc S2048x5 32 [1] iota_S2048x5_d1_w32)
    (iota .tc S2048x5 32 [0] iota_S2048x5_d0_w32) k0_pay6 512#32 k0_pay7 k0_pay8
    (Scalar.extui (Scalar.cmpi .sgt 512#32 0#32)) (Scalar.extui (Scalar.cmpi .slt 512#32 0#32))

variable (c : Dev nD) (T : Buf (Elt F) ((c : Thread nD τ).loc main_v5))
  (V6 G : Buf (Elt F) ((c : Thread nD τ).loc main_v6)) (W : S1024x128.Idx → F .f32)

/-- The drain loop's wait. -/
theorem drain_eq (i : grid0.Coords) (a2 : Memref sig .tc .vmem S256x1 .i32) (h2 : a2.IsWhole) (a3 : Memref sig .tc .vmem S256x128 .f32) (h3 : a3.IsWhole)
    (a4 : Memref sig .tc .vmem S2048x128 .f32) (h4 : a4.IsWhole) (h : k0_cond1 i = 1#1) (k : Fin k0_t2_loop.trips) (acc : Unit) :
    k0_t2_body (F := F) i TAB (Memref.isWhole_whole _) a2 h2 a3 h3 a4 h4 OUT (Memref.isWhole_whole _) OUT (Memref.isWhole_whole _) SCR (Memref.isWhole_whole _) cc0_scratch1 h k acc
      = Prog.op (TpuEff.waitDma2 5 (SCR.slice (Rect.unit (s := S1024x128) ![0, 0] S1x128.size inb_S1024x128_S1x128_0_0) (fun _ => rfl))
          (OUT.slice (Rect.unit (s := S262144x128) ![0, 0] S1x128.size inb_S262144x128_S1x128_0_0) (fun _ => rfl))
          (View.wordExact_bits rfl) (View.wordExact_bits rfl)) fun _ => Prog.ret ⟨⟩ := rfl

/-- Before trip `k` of the drain loop: all transfers issued, `k` rows' units consumed. -/
def drainAt (k : ℕ) (_ : Unit) : sProp 𝕄 :=
  iprop(batch c T G 1024 (k * NN) ∗ ∃ O, owes (c : Thread nD τ) 0 O)

theorem drain_step (i : grid0.Coords) (a2 : Memref sig .tc .vmem S256x1 .i32) (h2 : a2.IsWhole) (a3 : Memref sig .tc .vmem S256x128 .f32) (h3 : a3.IsWhole)
    (a4 : Memref sig .tc .vmem S2048x128 .f32) (h4 : a4.IsWhole) (h : k0_cond1 i = 1#1) (k : Fin k0_t2_loop.trips) (acc : Unit) :
    drainAt c T G k.val acc ⊢ wp frame (wpE (defs₀ (F := F)) Variants.none (c : Thread nD τ) none) Set.univ
      (k0_t2_body i TAB (Memref.isWhole_whole _) a2 h2 a3 h3 a4 h4 OUT (Memref.isWhole_whole _) OUT (Memref.isWhole_whole _) SCR (Memref.isWhole_whole _) cc0_scratch1 h k acc)
      (drainAt c T G (k.val + 1)) := by
  have hk : k.val < 1024 := trips2 ▸ k.isLt
  rw [drain_eq]
  unfold drainAt
  iintro ⟨HB, ⟨%O, HO⟩⟩
  have hu : k.val * NN + 1 * NN ≤ NN * 1024 := by
    rw [← Nat.add_mul, Nat.mul_comm NN]; exact Nat.mul_le_mul_right _ (by omega)
  iapply (Transfers.wp_waitBatchMul EC Variants.none (c : Thread nD τ) none (defs := defs₀ (F := F)) () (N := NN) 1
    (show (OUT.slice (Rect.unit (s := S262144x128) ![0, 0] S1x128.size inb_S262144x128_S1x128_0_0) (fun _ => rfl)).view.dmaCredit = 1 * NN from by
      rw [Nat.one_mul]; rfl) hu) $$ [HB HO]
  · isplitl [HB]; · iexact HB
    iexact HO
  iintro ⟨HB, HO⟩
  sl_step
  rw [Nat.add_mul]
  isplitl [HB]; · iexact HB
  iexists _; iexact HO

/-- The rest of the bank: the rows no sample writes. -/
abbrev restRows : Finset (Idx ((c : Thread nD τ).loc main_v6)) :=
  Ring.restOf (ℓ := (c : Thread nD τ).loc main_v6) fun t => outRow (rowOf c T t)

/-- Held between steps, `j` transfers issued. -/
def Mid (j : ℕ) : sProp 𝕄 :=
  iprop(batch c T G j 0 ∗ rowsFrom c T V6 j ∗ ((c : Thread nD τ).loc main_v6 ↦[restRows c T]{fullShare} V6)
    ∗ ((c : Thread nD τ).loc main_v5 ↦{fullShare.right} T) ∗ ∃ g, ((c : Thread nD τ).loc cc0_scratch0 ↦[scrFrom j]{fullShare} g))

/-- Held outside the steps, the bank's buffer whole at `f`. -/
def Out (f : Buf (Elt F) ((c : Thread nD τ).loc main_v6)) : sProp 𝕄 :=
  iprop((∃ g, (c : Thread nD τ).loc cc0_scratch0 ↦{fullShare} g) ∗ semVal ((c : Thread nD τ), SemLoc.dma 5) 0
    ∗ ((c : Thread nD τ).loc main_v6 ↦{fullShare} f) ∗ ((c : Thread nD τ).loc main_v5 ↦{fullShare.right} T))

/-- Entering: the batch allocated, the bank cut into the samples' rows and the rest. -/
theorem enter (hinj : ∀ t t', t ≠ t' → rowOf c T t ≠ rowOf c T t') : Out c T V6 ⊢ (|={Set.univ}=> Mid c T V6 G 0 : sProp 𝕄) := by
  unfold Out Mid
  iintro ⟨⟨%g, Hs⟩, Hv, Ho, HT⟩
  imod (Transfers.batch_alloc' EC (c : Thread nD τ) () NN (deliv c T G) (sm := SemLoc.dma 5) (E := Set.univ)) $$ Hv with HB
  imodintro
  ihave Ho := (Ring.fam_split (ℓ := (c : Thread nD τ).loc main_v6) (fun t => outRow (rowOf c T t)) (fun b b' h => outRow_disjoint (hinj b b' h)) V6) $$ Ho
  icases Ho with ⟨Hrows, Hrest⟩
  isplitl [HB]; · iexact HB
  isplitl [Hrows]; · unfold rowsFrom; rw [Ring.rangeSet_univ]; iexact Hrows
  isplitl [Hrest]; · iexact Hrest
  isplitl [HT]; · iexact HT
  iexists g; rw [scrFrom_zero]; iexact Hs

/-- Leaving: every delivery back, the bank whole at the final contents. -/
theorem leave (hinj : ∀ t t', t ≠ t' → rowOf c T t ≠ rowOf c T t')
    (hrest : ∀ x ∈ restRows c T, V6 x = G x) :
    iprop(bigSep Finset.univ (deliv c T G) ∗ semVal ((c : Thread nD τ), SemLoc.dma 5) 0
      ∗ ((c : Thread nD τ).loc main_v6 ↦[restRows c T]{fullShare} V6) ∗ ((c : Thread nD τ).loc main_v5 ↦{fullShare.right} T))
      ⊢ (Out c T G : sProp 𝕄) := by
  rw [pointsTo_congr hrest]
  unfold Out deliv
  iintro ⟨HD, Hv, Hrest, HT⟩
  ihave HD := ((Entails.of_eq (BI.bigSep_sep _ _ _)).trans (show _ ⊢ iprop(bigSep Finset.univ (fun t : Fin 1024 => ((c : Thread nD τ).loc main_v6 ↦[outRow (rowOf c T t)]{fullShare} G : sProp 𝕄))
    ∗ bigSep Finset.univ (fun t : Fin 1024 => iprop(∃ f, (c : Thread nD τ).loc cc0_scratch0 ↦[scrRow t.val]{fullShare} f : sProp 𝕄))) from .rfl)) $$ HD
  icases HD with ⟨Hrows, Hscr⟩
  isplitl [Hscr]
  · have g0 : Buf (Elt F) ((c : Thread nD τ).loc cc0_scratch0) := fun _ => FloatOps.ofBits .f32 0#32
    ihave Hscr := (BI.bigSep_exists_pi Finset.univ (fun (t : Fin 1024) (f : Buf (Elt F) ((c : Thread nD τ).loc cc0_scratch0)) => ((c : Thread nD τ).loc cc0_scratch0 ↦[scrRow t.val]{fullShare} f : sProp 𝕄))) $$ Hscr
    icases Hscr with ⟨%fs, Hscr⟩
    ihave Hscr := (pointsTo_biUnion_join (ℓ := (c : Thread nD τ).loc cc0_scratch0) Finset.univ (fun t : Fin 1024 => scrRow t.val) fs g0
      (fun b _ b' _ h => scrRow_disjoint (fun e => h (Fin.ext e)))) $$ Hscr
    icases Hscr with ⟨%g, -, Hscr⟩
    iexists g
    rw [show (Finset.univ.biUnion fun t : Fin 1024 => scrRow t.val) = Finset.univ from by
      ext x; simp only [Finset.mem_biUnion, Finset.mem_univ, true_and, iff_true]; exact ⟨x 0, mem_scrRow.mpr rfl⟩]
    iexact Hscr
  isplitl [Hv]; · iexact Hv
  isplitr [HT]
  · ihave Hrows := (Entails.of_eq (pointsTo_biUnion (ℓ := (c : Thread nD τ).loc main_v6) Finset.univ (fun t : Fin 1024 => outRow (rowOf c T t)) (fun b _ b' _ h => outRow_disjoint (hinj b b' h))).symm) $$ Hrows
    iapply (pointsTo_split_subset (ℓ := (c : Thread nD τ).loc main_v6) (Finset.subset_univ (Finset.univ.biUnion fun t : Fin 1024 => outRow (rowOf c T t)))).2
    isplitl [Hrows]; · iexact Hrows
    iexact Hrest
  iexact HT

/-- The contents held at the start of step `i`: nothing issued at the first. -/
def Held (n : ℕ) : sProp 𝕄 :=
  if n = 0 then Out c T V6 else if n < 4 then Mid c T V6 G (256 * n) else Out c T G

theorem held_mid (hinj : ∀ t t', t ≠ t' → rowOf c T t ≠ rowOf c T t') (n : ℕ) (hn : n < 4) :
    Held c T V6 G n ⊢ (|={Set.univ}=> Mid c T V6 G (256 * n) : sProp 𝕄) := by
  unfold Held
  by_cases h : n = 0
  · subst h; rw [if_pos rfl]; exact enter c T V6 G hinj
  · rw [if_neg h, if_pos hn]; exact fupd_intro

theorem cond_iff (i : grid0.Coords) : k0_cond1 i = 1#1 ↔ (i 0).val = 3 := by
  have hi : (i 0).val < 4 := (i 0).isLt
  unfold k0_cond1
  generalize (i 0).val = n at hi ⊢
  interval_cases n <;> decide

/-- A whole view read through the rectangle of its own sizes at the zero offsets reads the view. -/
theorem read_full {cs : Space} {s : Shape} {e : EltTy} (m : Memref sig .tc cs s e) {off : Fin s.rank → ℕ} (h : off = fun _ => 0)
    (inb : ∀ a, off a + s.size a ≤ s.size a) (f : m.view.ref.ty.Contents (Elt F)) :
    (m.access (Rect.unit (s := s) off s.size inb)).read (Elt F) f = m.view.read (Elt F) f := by
  subst h
  funext y
  rw [View.read_apply, View.read_apply]
  have he : (Rect.unit (s := s) (fun _ => 0) s.size inb).emb y = y := Rect.emb_whole_apply _ y
  have he' : (m.access (Rect.unit (s := s) (fun _ => 0) s.size inb)).emb y = m.view.emb y := congrArg m.view.emb he
  rw [he']

theorem zero2 : (![0, 0] : Fin 2 → ℕ) = fun _ => 0 := by funext a; fin_cases a <;> rfl

theorem ret_then {E : Type → Type} {α β : Type} (a : α) (k : α → Prog E β) : (Prog.ret a).bind k = k a := rfl
theorem pure_then {E : Type → Type} {α β : Type} (a : α) (k : α → Prog E β) : (Pure.pure a : Prog E α).bind k = k a := rfl
theorem then_assoc {E : Type → Type} {α β γ : Type} (p : Prog E α) (f : α → Prog E β) (k : β → Prog E γ) :
    (p >>= f).bind k = p >>= fun x => (f x).bind k := Prog.bind_assoc p f k

/-- The block of scratch rows step `i` stores. -/
abbrev blk (i : grid0.Coords) : Rect S1024x128 := Rect.unit (s := S1024x128) (k0_off1 i) S256x128.size (k0_off1_inb i)

theorem blk_subset (i : grid0.Coords) : (SCR.access (blk i)).set ⊆ scrFrom (256 * (i 0).val) := by
  intro x hx
  have hx' : x ∈ (blk i).set := by
    have h : (SCR.access (blk i)).set = (blk i).set := View.set_slice_whole _ _
    rw [← h]; exact hx
  have := (Rect.mem_set_unit (s := S1024x128)).mp hx' 0
  rw [off1_zero] at this
  exact mem_scrFrom.mpr this.1

/-- What the store leaves on the block. -/
theorem blk_write (i : grid0.Coords) (g : Buf (Elt F) ((c : Thread nD τ).loc cc0_scratch0)) (p : Vec F S256x128 .f32)
    (hW : ∀ (x : S1024x128.Idx) (y : S256x128.Idx), (x 0).val = 256 * (i 0).val + (y 0).val → (x 1).val = (y 1).val → p y = W x)
    (x : S1024x128.Idx) (h1 : 256 * (i 0).val ≤ (x 0).val) (h2 : (x 0).val < 256 * (i 0).val + 256) :
    (SCR.access (blk i)).write (Elt F) g p Finset.univ x = W x := by
  have hx1 : (x 1).val < 128 := (x 1).isLt
  let y : S256x128.Idx := fun a => ⟨if a = 0 then (x 0).val - 256 * (i 0).val else (x 1).val, by
    fin_cases a
    · show (x 0).val - 256 * (i 0).val < 256; omega
    · exact hx1⟩
  have hy0 : (y 0).val = (x 0).val - 256 * (i 0).val := rfl
  have hy1 : (y 1).val = (x 1).val := rfl
  have he : (SCR.access (blk i)).emb y = x := by
    funext a
    refine Fin.ext ?_
    have h0 := off1_zero i
    fin_cases a
    · show k0_off1 i 0 + 1 * (y 0).val = (x 0).val; omega
    · show 0 + 1 * (y 1).val = (x 1).val; omega
  have := View.write_emb_of_mem (v := SCR.access (blk i)) (Val := Elt F) g p (M := Finset.univ) (x := y) (Finset.mem_univ _)
  rw [he] at this
  exact this.trans (hW x y (by omega) hy1.symm)

/-- The body at step `i`. -/
theorem body_run (hinj : ∀ t t', t ≠ t' → rowOf c T t ≠ rowOf c T t') (hrest : ∀ x ∈ restRows c T, V6 x = G x)
    (hT : ∀ t, rowOf c T t < 262144)
    (hG : ∀ (t : Fin 1024) (x : S262144x128.Idx) (y : S1024x128.Idx), (x 0).val = rowOf c T t → (y 0).val = t.val → (y 1).val = (x 1).val → G x = W y)
    (i : grid0.Coords) (a2 : Memref sig .tc .vmem S256x1 .i32) (h2 : a2.IsWhole) (a3 : Memref sig .tc .vmem S256x128 .f32) (h3 : a3.IsWhole)
    (a4 : Memref sig .tc .vmem S2048x128 .f32) (h4 : a4.IsWhole)
    (d0 : Vec F S256x1 .i32) (d1 : Vec F S256x128 .f32) (d2 : Vec F S2048x128 .f32)
    (hW : ∀ (x : S1024x128.Idx) (y : S256x128.Idx), (x 0).val = 256 * (i 0).val + (y 0).val → (x 1).val = (y 1).val → pay d0 d1 d2 y = W x) :
    iprop(Held c T V6 G (i 0).val ∗ (∃ O, owes (c : Thread nD τ) 0 O) ∗ owns (c : Thread nD τ) a2 fullShare d0 ∗ owns (c : Thread nD τ) a3 fullShare d1 ∗ owns (c : Thread nD τ) a4 fullShare d2)
      ⊢ wp frame (wpE (defs₀ (F := F)) Variants.none (c : Thread nD τ) none) Set.univ
        (cc0__body i TAB (Memref.isWhole_whole _) a2 h2 a3 h3 a4 h4 OUT (Memref.isWhole_whole _) OUT (Memref.isWhole_whole _) SCR (Memref.isWhole_whole _) cc0_scratch1)
        (fun _ => iprop(Held c T V6 G ((i 0).val + 1) ∗ (∃ O, owes (c : Thread nD τ) 0 O) ∗ owns (c : Thread nD τ) a2 fullShare d0 ∗ owns (c : Thread nD τ) a3 fullShare d1 ∗ owns (c : Thread nD τ) a4 fullShare d2)) := by
  have hi : (i 0).val < 4 := (i 0).isLt
  rw [cc0__body_eq_skeleton]
  unfold cc0__body_skel
  simp only [k0_part1_eq_skeleton, k0_part2_eq_skeleton]
  unfold k0_part1_skel k0_part2_skel owns
  iintro ⟨HH, HO, ⟨%f0, %hf0, H0⟩, ⟨%f1, %hf1, H1⟩, ⟨%f2, %hf2, H2⟩⟩
  imod (held_mid c T V6 G hinj _ hi) $$ HH with HM
  unfold Mid
  icases HM with ⟨HB, Hrows, Hrest, HT, ⟨%g, Hs⟩⟩
  have r0 := (read_full (F := F) a2 zero2 inb_S256x1_S256x1_0_0 f0).trans hf0
  have r1 := (read_full (F := F) a3 zero2 inb_S256x128_S256x128_0_0 f1).trans hf1
  have r2 := (read_full (F := F) a4 zero2 inb_S2048x128_S2048x128_0_0 f2).trans hf2
  iapply (wp_load_rect Variants.none (c : Thread nD τ) none Set.univ (defs := defs₀ (F := F)) (m := a3) (r := Rect.unit (s := S256x128) ![0, 0] S256x128.size inb_S256x128_S256x128_0_0) (S := a3.view.set) (View.set_slice_subset _ _)) $$ H1
  iintro H1
  rw [r1]
  iapply (wp_load_rect Variants.none (c : Thread nD τ) none Set.univ (defs := defs₀ (F := F)) (m := a4) (r := Rect.unit (s := S2048x128) ![0, 0] S2048x128.size inb_S2048x128_S2048x128_0_0) (S := a4.view.set) (View.set_slice_subset _ _)) $$ H2
  iintro H2
  rw [r2]
  iapply (wp_load_rect Variants.none (c : Thread nD τ) none Set.univ (defs := defs₀ (F := F)) (m := a2) (r := Rect.unit (s := S256x1) ![0, 0] S256x1.size inb_S256x1_S256x1_0_0) (S := a2.view.set) (View.set_slice_subset _ _)) $$ H0
  iintro H0
  rw [r0]
  iapply (wp_load_rect Variants.none (c : Thread nD τ) none Set.univ (defs := defs₀ (F := F)) (m := SCR) (r := blk i) (S := scrFrom (256 * (i 0).val)) (blk_subset i)) $$ Hs
  iintro Hs
  iapply (wp_store Variants.none (c : Thread nD τ) none Set.univ (defs := defs₀ (F := F)) (m := SCR) (r := blk i) (w := pay d0 d1 d2) (Mk := Finset.univ) (S := scrFrom (256 * (i 0).val)) (blk_subset i)) $$ Hs
  iintro Hs
  dsimp only
  rw [ret_then, then_assoc]
  sl_for (issueAt c T V6 G W i) $$ [HB Hrows HT Hs]
  · intro k acc
    exact issue_step c T V6 G W hT hG i a2 h2 a3 h3 a4 h4 _ _ _ _ _ _ _ _ _ _ _ _ _ _ k acc
  · unfold issueAt
    isplitl [HB]; · iexact HB
    isplitl [Hrows]; · iexact Hrows
    isplitl [HT]; · iexact HT
    iexists _
    isplitr
    rotate_left
    · iexact Hs
    ipureintro
    exact fun x h1 h2 => blk_write c W i g _ hW x h1 h2
  iintro %acc HL
  unfold issueAt
  icases HL with ⟨HB, Hrows, HT, ⟨%g', %hg', Hs⟩⟩
  have hj : 256 * (i 0).val + k0_t1_loop.trips = 256 * ((i 0).val + 1) := by rw [trips1]; omega
  rw [hj]
  unfold body_run.sl.prog.cont_1
  rw [pure_then]
  dsimp only
  by_cases hc : k0_cond1 i = 1#1
  · have h3' := (cond_iff i).mp hc
    rw [dif_pos hc, h3']
    icases HO with ⟨%O, HO⟩
    sl_for (drainAt c T G) $$ [HB HO]
    · intro k acc
      exact drain_step c T G i a2 h2 a3 h3 a4 h4 hc k acc
    · unfold drainAt
      isplitl [HB]; · rw [Nat.zero_mul]; iexact HB
      iexists O; iexact HO
    iintro %acc' HL
    unfold drainAt
    icases HL with ⟨HB, HO⟩
    rw [show Scf.trips k0_t2_loop.lb k0_t2_loop.ub k0_t2_loop.st = 1024 from trips2]
    rw [show (1024 : ℕ) * NN = NN * 1024 from Nat.mul_comm _ _]
    imod (Transfers.batch_collect' EC (c : Thread nD τ) NN_pos) $$ HB with ⟨HD, Hv⟩
    sl_step
    isplitl [HD Hv Hrest HT]
    · unfold Held
      rw [if_neg (by omega), if_neg (by omega)]
      iapply (leave c T V6 G hinj hrest)
      isplitl [HD]; · iexact HD
      isplitl [Hv]; · iexact Hv
      isplitl [Hrest]; · iexact Hrest
      iexact HT
    isplitl [HO]; · iexact HO
    isplitl [H0]; · iexists f0; isplitr; · ipureintro; exact hf0
                    iexact H0
    isplitl [H1]; · iexists f1; isplitr; · ipureintro; exact hf1
                    iexact H1
    iexists f2; isplitr; · ipureintro; exact hf2
    iexact H2
  · have h3' : (i 0).val ≠ 3 := fun e => hc ((cond_iff i).mpr e)
    rw [dif_neg hc]
    sl_step
    isplitl [HB Hrows Hrest HT Hs]
    · unfold Held
      rw [if_neg (by omega), if_pos (by omega)]
      unfold Mid
      isplitl [HB]; · iexact HB
      isplitl [Hrows]; · iexact Hrows
      isplitl [Hrest]; · iexact Hrest
      isplitl [HT]; · iexact HT
      iexists g'; iexact Hs
    isplitl [HO]; · iexact HO
    isplitl [H0]; · iexists f0; isplitr; · ipureintro; exact hf0
                    iexact H0
    isplitl [H1]; · iexists f1; isplitr; · ipureintro; exact hf1
                    iexact H1
    iexists f2; isplitr; · ipureintro; exact hf2
    iexact H2

end Cert.KernelIdeal.Rows

end
-- ==== Proof.Run.lean ====
/-
  The whole program's run: the host lines, the region over the body's invariant, the last reshape; what every
  buffer of the claims ends at.
-/
module

public import proofs.«01_k».proof.Proof.Body
public import Idealize.ShloMosaic.Lib.StableHlo
public import Idealize.ShloMosaic.Lib.StableHlo.Run
public import Idealize.ShloMosaic.Lib.Pipeline.FrameBody

@[expose] public section

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf heldIn)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- Every buffer's contents at the region's entry. -/
abbrev V₀ (c : Dev nD) : Valuation τ sig (Elt F) := StableHlo.after (List.flatten [hostOps0]) (fun b => m (c, b))

/-- The host lines' results at the entry. -/
theorem V₀_arg (c : Dev nD) (b : Ref sig .tc) (h : b ∈ [main_arg0, main_arg1, main_arg2, main_arg3, main_arg4]) :
    V₀ m c (Proc.devRef .tc b) = m (c, Proc.devRef .tc b) := by
  show StableHlo.after [_, _, _, _, _, _, _, _] _ _ = _
  simp only [List.mem_cons, List.not_mem_nil, or_false] at h
  obtain rfl | rfl | rfl | rfl | rfl := h <;> after_results
theorem V₀_v0 (c : Dev nD) : V₀ m c (Proc.devRef .tc main_v0) = shapeCast S2048x128 (m (c, Proc.devRef .tc main_arg2)) shapeCasts_S4x512x128_S2048x128 := by
  show StableHlo.after [_, _, _, _, _, _, _, _] _ _ = _; after_results; rfl
theorem V₀_v1 (c : Dev nD) : V₀ m c (Proc.devRef .tc main_v1) = shapeCast S1024x1 (m (c, Proc.devRef .tc main_arg3)) shapeCasts_S1024_S1024x1 := by
  show StableHlo.after [_, _, _, _, _, _, _, _] _ _ = _; after_results; rfl
theorem V₀_v5 (c : Dev nD) : V₀ m c (Proc.devRef .tc main_v5)
    = addi (muli (m (c, Proc.devRef .tc main_arg3)) (broadcastInDim S1024 ![] bcast_S_S1024 (constantI S_ 32 65536#32))) (m (c, Proc.devRef .tc main_arg4)) := by
  show StableHlo.after [_, _, _, _, _, _, _, _] _ _ = _; after_results
theorem V₀_v6 (c : Dev nD) : V₀ m c (Proc.devRef .tc main_v6) = shapeCast S262144x128 (m (c, Proc.devRef .tc main_arg1)) shapeCasts_S4x65536x128_S262144x128 := by
  show StableHlo.after [_, _, _, _, _, _, _, _] _ _ = _; after_results; rfl

/-- The table the pipeline is given. -/
def tabs : (p : Fin 1) → (pcfgs (F := F) p).Adm := fun _ => ⟨fun k => V₀ m 0 (Proc.devRef .tc (pre0.ref k)), trivial⟩

abbrev cfgK : Cfg sig Λ₀ := Pipeline.pin (pcfgs (F := F)) (tabs m) 0

/-- The windows' arrays at entry. -/
def arrs (c : Dev nD) (w : Fin 3) : Buf (Elt F) (((cfgK m).win w).arr.view.loc (c : Thread nD τ)) :=
  V₀ m c (Proc.devRef .tc (Pipeline.arrRef spec0 w))

/-- What the windows' staging buffers hold at step `t`. -/
abbrev held (c : Dev nD) (w : Fin 3) (t : Fin (cfgK m).N) : ((cfgK m).win w).block.Idx → Elt F ((cfgK m).win w).elt :=
  heldIn (cfgK m) (arrs m c) w t.val t.isLt

/-- The step whose block holds row `n`, and a row of its block. -/
def stepOf (x : S1024x128.Idx) : Fin (cfgK m).N := ⟨(x 0).val / 256, by
  have h : (x 0).val < 1024 := (x 0).isLt
  show (x 0).val / 256 < grid0.N
  rw [N_0]; omega⟩
def inBlk (x : S1024x128.Idx) : S256x128.Idx := fun a => ⟨if a = 0 then (x 0).val % 256 else (x 1).val, by
  have h1 : (x 1).val < 128 := (x 1).isLt
  fin_cases a
  · exact Nat.mod_lt _ (by decide)
  · exact h1⟩

/-- The blended rows, of all steps. -/
def rowsW (c : Dev nD) (x : S1024x128.Idx) : F .f32 :=
  pay (held m c 0 (stepOf m x)) (held m c 1 (stepOf m x)) (held m c 2 (stepOf m x)) (inBlk x)

/-- The table and the bank at entry. -/
def tab (c : Dev nD) : Buf (Elt F) ((c : Thread nD τ).loc main_v5) := V₀ m c (Proc.devRef .tc main_v5)
def bank (c : Dev nD) : Buf (Elt F) ((c : Thread nD τ).loc main_v6) := V₀ m c (Proc.devRef .tc main_v6)

open Classical in
/-- The bank at the end: a sample's row holds its blended row, every other row what it held. -/
def final (c : Dev nD) : Buf (Elt F) ((c : Thread nD τ).loc main_v6) := fun x : S262144x128.Idx =>
  if h : ∃ t : Fin 1024, rowOf c (tab m c) t = (x 0).val then
    rowsW m c (fun a => ⟨if a = 0 then h.choose.val else (x 1).val, by
      have h1 : (x 1).val < 128 := (x 1).isLt
      fin_cases a
      · exact h.choose.isLt
      · exact h1⟩)
  else bank m c x

theorem final_row (c : Dev nD) (hinj : ∀ t t', t ≠ t' → rowOf c (tab m c) t ≠ rowOf c (tab m c) t')
    (t : Fin 1024) (x : S262144x128.Idx) (y : S1024x128.Idx) (h0 : (x 0).val = rowOf c (tab m c) t) (h1 : (y 0).val = t.val) (h2 : (y 1).val = (x 1).val) :
    final m c x = rowsW m c y := by
  have h : ∃ t : Fin 1024, rowOf c (tab m c) t = (x 0).val := ⟨t, h0.symm⟩
  have ht : h.choose = t := by
    by_contra hne; exact hinj _ _ hne (h.choose_spec.trans h0)
  unfold final
  rw [dif_pos h]
  refine congrArg (rowsW m c) (funext fun a => Fin.ext ?_)
  fin_cases a
  · show h.choose.val = (y 0).val; rw [ht, h1]
  · exact h2.symm

theorem final_rest (c : Dev nD) (x : S262144x128.Idx) (h : ∀ t, rowOf c (tab m c) t ≠ (x 0).val) : final m c x = bank m c x := by
  unfold final
  exact dif_neg (fun ⟨t, ht⟩ => h t ht)

theorem not_mem_of_rest {n : ℕ} {ℓ : Loc nD τ sig} (I : Fin n → Finset (Idx ℓ)) (x : Idx ℓ) (hx : x ∈ Ring.restOf I) (t : Fin n) : x ∉ I t :=
  fun h => (Finset.mem_sdiff.mp hx).2 (Finset.mem_biUnion.mpr ⟨t, Finset.mem_univ _, h⟩)

theorem rest_of (c : Dev nD) (T : Buf (Elt F) ((c : Thread nD τ).loc main_v5)) (V6 G : Buf (Elt F) ((c : Thread nD τ).loc main_v6))
    (h : ∀ x : S262144x128.Idx, (∀ t, rowOf c T t ≠ (x 0).val) → G x = V6 x) : ∀ x ∈ restRows c T, V6 x = G x := by
  intro x hx
  have hm : ∀ (y : S262144x128.Idx) (n : ℕ), n = (y 0).val → y ∈ outRow n := fun y n h => mem_outRow.mpr h.symm
  unfold restRows at hx
  generalize hI : (fun t => outRow (rowOf c T t) : Fin 1024 → Finset (Idx ((c : Thread nD τ).loc main_v6))) = I at hx
  have hx' := not_mem_of_rest (n := 1024) (ℓ := (c : Thread nD τ).loc main_v6) I x hx
  refine (h x fun t ht => hx' t ?_).symm
  rw [← hI]
  exact hm x _ ht

theorem final_off (c : Dev nD) : ∀ x ∈ restRows c (tab m c), bank m c x = final m c x :=
  rest_of c (tab m c) (bank m c) (final m c) (final_rest m c)

/-- The region's data: the windows read as fetched, the invariant of the steps. -/
def dats (p : Fin 1) (c : Dev nD) : Dat τ (Elt F) Unit ℕ (Pipeline.UD sig nD τ) ℕ (Pipeline.pin (pcfgs (F := F)) (tabs m) p) c where
  A w := arrs m c w
  after w t := held m c w t
  Φ t := Held c (tab m c) (bank m c) (final m c) t.val
  q _ := fullShare
  owed _ := 0

theorem phi_at (c : Dev nD) (t : Fin ((cfgK m).N + 1)) : (dats m 0 c).Φ t = Held c (tab m c) (bank m c) (final m c) t.val := rfl
theorem phi_castSucc (c : Dev nD) (t : Fin (cfgK m).N) : (dats m 0 c).Φ t.castSucc = Held c (tab m c) (bank m c) (final m c) t.val :=
  (phi_at m c _).trans (congrArg _ (Fin.val_castSucc t))
theorem phi_succ (c : Dev nD) (t : Fin (cfgK m).N) : (dats m 0 c).Φ t.succ = Held c (tab m c) (bank m c) (final m c) (t.val + 1) :=
  (phi_at m c _).trans (congrArg _ (Fin.val_succ t))

theorem before_eq (c : Dev nD) (w : Fin 3) (t : Fin (cfgK m).N) (d) : (dats m 0 c).before w t d = held m c w t :=
  Dat.before_eq_heldIn (dats m 0 c) w (by fin_cases w <;> rfl) (fun _ => rfl) (fun i a => by fin_cases w <;> rfl) (fun _ => rfl) t d

theorem defs₀_row (t : Fin (cfgK m).N) :
    defs₀ (F := F) .tc (cfgK m).body ((cfgK m).bodyArgs t ((cfgK m).slots t))
      = cc0__body (grid0.coords t) TAB (Memref.isWhole_whole _) (((cfgK m).win 0).stage ((cfgK m).slots t 0)) (hstage0_0 (((cfgK m).slots t 0).cast nbuf0_0))
          (((cfgK m).win 1).stage ((cfgK m).slots t 1)) (hstage0_1 (((cfgK m).slots t 1).cast nbuf0_1))
          (((cfgK m).win 2).stage ((cfgK m).slots t 2)) (hstage0_2 (((cfgK m).slots t 2).cast nbuf0_2))
          OUT (Memref.isWhole_whole _) OUT (Memref.isWhole_whole _) SCR (Memref.isWhole_whole _) cc0_scratch1 := by
  unfold defs₀; rw [Defs.onTc_tc]; rfl

theorem coords_val (t : Fin grid0.N) : (grid0.coords t 0).val = t.val := by
  obtain h | h | h | h := fin_N0 t <;> subst h <;> decide

/-- The body's block is the step's rows. -/
theorem block_rows (c : Dev nD) (t : Fin (cfgK m).N) (x : S1024x128.Idx) (y : S256x128.Idx)
    (h0 : (x 0).val = 256 * (grid0.coords t 0).val + (y 0).val) (h1 : (x 1).val = (y 1).val) :
    pay (held m c 0 t) (held m c 1 t) (held m c 2 t) y = rowsW m c x := by
  have hy : (y 0).val < 256 := (y 0).isLt
  rw [coords_val] at h0
  have hs : stepOf m x = t := Fin.ext (by show (x 0).val / 256 = t.val; omega)
  have hb : inBlk x = y := by
    funext a
    refine Fin.ext ?_
    fin_cases a
    · show (x 0).val % 256 = (y 0).val; omega
    · exact h1
  unfold rowsW
  rw [hs, hb]

section Conditions

variable (hT : ∀ c t, rowOf c (tab m c) t < 262144) (hinj : ∀ c t t', t ≠ t' → rowOf c (tab m c) t ≠ rowOf c (tab m c) t')

include hT hinj

theorem sound_body (c : Dev nD) (t : Fin (cfgK m).N) :
    iprop((dats m 0 c).Φ t.castSucc ∗ (dats m 0 c).owesAt () t.castSucc
      ∗ bigSep Finset.univ fun w => iprop(∃ d, owns (c : Thread nD τ) (((cfgK m).win w).stage ((cfgK m).slots t w)) fullShare ((dats m 0 c).before w t d)))
    ⊢ wp frame (wpE (defs₀ (F := F)) Variants.none (c : Thread nD τ) none) Set.univ
      (defs₀ (F := F) .tc (cfgK m).body ((cfgK m).bodyArgs t ((cfgK m).slots t)))
      fun _ => iprop((dats m 0 c).Φ t.succ ∗ (dats m 0 c).owesAt () t.succ
        ∗ bigSep Finset.univ fun w => owns (c : Thread nD τ) (((cfgK m).win w).stage ((cfgK m).slots t w)) fullShare ((dats m 0 c).after w t)) := by
  have hrun := body_run c (tab m c) (bank m c) (final m c) (rowsW m c) (hinj c) (final_off m c) (hT c)
    (fun t x y h0 h1 h2 => final_row m c (hinj c) t x y h0 h1 h2) (grid0.coords t)
    (((cfgK m).win 0).stage ((cfgK m).slots t 0)) (hstage0_0 (((cfgK m).slots t 0).cast nbuf0_0))
    (((cfgK m).win 1).stage ((cfgK m).slots t 1)) (hstage0_1 (((cfgK m).slots t 1).cast nbuf0_1))
    (((cfgK m).win 2).stage ((cfgK m).slots t 2)) (hstage0_2 (((cfgK m).slots t 2).cast nbuf0_2))
    (held m c 0 t) (held m c 1 t) (held m c 2 t) (block_rows m c t)
  rw [defs₀_row, bigSep_W0, bigSep_W0]
  simp only [before_eq]
  rw [phi_castSucc, phi_succ]
  rw [coords_val] at hrun
  unfold Dat.owesAt Pipeline.owesWithin
  rw [show (dats m 0 c).owed t.castSucc = 0 from rfl, show (dats m 0 c).owed t.succ = 0 from rfl]
  refine triple_restated hrun rfl ?_ fun _ => ?_
  · iintro ⟨HH, ⟨%O, -, HO⟩, ⟨%e0, H0⟩, ⟨%e1, H1⟩, ⟨%e2, H2⟩⟩
    isplitl [HH]; · iexact HH
    isplitl [HO]; · iexists O; iexact HO
    isplitl [H0]; · iexact H0
    isplitl [H1]; · iexact H1
    iexact H2
  · iintro ⟨HH, ⟨%O, HO⟩, H0, H1, H2⟩
    isplitl [HH]; · iexact HH
    isplitl [HO]
    · iexists O
      isplitr
      · ipureintro; exact fun _ _ => Or.inl trivial
      iexact HO
    isplitl [H0]; · iexact H0
    isplitl [H1]; · iexact H1
    iexact H2

theorem body_obligation (c : Dev nD) : BodyObligation (dats m 0 c) defs₀ Variants.none () Set.univ :=
  fun t => sound_body m hT hinj c t

/-- The body's one semaphore cell and the one buffer it writes by transfers. -/
abbrev cell : Fin 1 → SemLoc sig := fun _ => SemLoc.dma 5
def bankRefs : Finset (Ref sig .tc) := {main_v6}

omit hT hinj in
theorem cellFacts : Pipeline.OwnSemFacts spec0 cell := by decide
omit hT hinj in
theorem bank_sub : bankRefs ⊆ Pipeline.restRefsP sig pre0 spec0 \ ∅ := by decide
omit hT hinj in
theorem tail_sub : ({Proc.devRef .tc main_v6, Proc.devRef .tc main_v7} : Finset (DevRef τ sig)) ⊆ Pipeline.tailRefs sig pre0 spec0 := by decide
omit hT hinj in
theorem tail_keep : ∀ w : Fin 3, Proc.devRef (τ := τ) .tc (Pipeline.arrRef spec0 w) ∉ ({Proc.devRef .tc main_v7} : Finset (DevRef τ sig)) := by decide

/-- What the region leaves: the bank at its final contents. -/
def left (c : Dev nD) (b : Ref sig .tc) : Buf (Elt F) ((c : Thread nD τ).loc b) :=
  if h : main_v6 = b then h ▸ final m c else V₀ m c (Proc.devRef .tc b)

omit hT hinj in
theorem left_bank (c : Dev nD) : left m c main_v6 = final m c := by unfold left; rw [dif_pos rfl]

omit hT hinj in
theorem out_eq (c : Dev nD) (X : (c : Dev nD) → (b : Ref sig .tc) → Buf (Elt F) ((c : Thread nD τ).loc b)) (V : (c : Dev nD) → (b : Ref sig .tc) → Buf (Elt F) ((c : Thread nD τ).loc b)) :
    (Pipeline.ΦDRV cell spec0 ∅ bankRefs V X c : sProp 𝕄)
      = iprop((∃ f : Buf (Elt F) ((c : Thread nD τ).loc cc0_scratch0), ((c : Thread nD τ).loc cc0_scratch0) ↦{fullShare} f)
        ∗ semVal ((c : Thread nD τ), SemLoc.dma 5) 0 ∗ emp ∗ ((c : Thread nD τ).loc main_v6 ↦{fullShare} X c main_v6)) := by
  unfold Pipeline.ΦDRV
  rw [scopedRest0_eq, Pipeline.ownSems0_eq_of_list c cell [0] (by decide) (by decide), BI.bigSep_empty]
  unfold bankRefs
  rw [BI.bigSep_singleton]
  rfl

omit hT hinj in
theorem tabs_eq (c : Dev nD) : (Pipeline.ΦT pre0 ((tabs m 0).1) c : sProp 𝕄) = ((c : Thread nD τ).loc main_v5 ↦{fullShare.right} tab m c) := by
  unfold Pipeline.ΦT Pipeline.prefHeld
  have hc : c = 0 := Subsingleton.elim _ _
  subst hc
  rw [BI.bigSep_eq_bigSepL_of_eq [(0 : Fin 1)] (by decide) (by decide)]
  rfl

omit hT hinj in
theorem entry_in (c : Dev nD) (V : (c : Dev nD) → (b : Ref sig .tc) → Buf (Elt F) ((c : Thread nD τ).loc b)) :
    iprop(Pipeline.ΦDRV cell spec0 ∅ bankRefs V V c ∗ Pipeline.ΦT pre0 ((tabs m 0).1) c) ⊢ (Out c (tab m c) (V c main_v6) : sProp 𝕄) := by
  rw [out_eq, tabs_eq]
  unfold Out
  iintro ⟨⟨H1, H2, -, H3⟩, H4⟩
  isplitl [H1]; · iexact H1
  isplitl [H2]; · iexact H2
  isplitl [H3]; · iexact H3
  iexact H4

omit hT hinj in
theorem entry_out (c : Dev nD) (V X : (c : Dev nD) → (b : Ref sig .tc) → Buf (Elt F) ((c : Thread nD τ).loc b)) (hX : X c main_v6 = final m c) :
    (Out c (tab m c) (final m c) : sProp 𝕄) ⊢ Pipeline.ΦDRV cell spec0 ∅ bankRefs V X c := by
  rw [out_eq, hX]
  unfold Out
  iintro ⟨H1, H2, H3, -⟩
  isplitl [H1]; · iexact H1
  isplitl [H2]; · iexact H2
  isplitr
  · iempintro
  iexact H3

set_option backward.isDefEq.respectTransparency.types false in
/-- The run. -/
theorem run_main (Q' : PUnit × MemSt nD τ sig (Elt F) → Prop)
    (hQ' : ∀ r : PUnit × MemSt nD τ sig (Elt F), (∀ c : Dev nD, (∀ w, r.2.mem ((spec0 w).arr.view.loc (c : Thread nD τ)) = (dats m 0 c).arrAt w (cfgK m).N)
      ∧ ∀ b ∈ Pipeline.restRefsP sig pre0 spec0, r.2.mem ((c : Thread nD τ).loc b)
          = StableHlo.after (List.flatten [hostOps1]) (Pipeline.withArrays spec0 c (Pipeline.withR (V₀ m c) bankRefs c (left m c)) fun w => (dats m 0 c).arrAt w (cfgK m).N) (Proc.devRef .tc b))
      ∧ r.2.sem = (fun _ => 0) → Q' r) :
    θ_run defs (onTc (τ := τ) (main (F := F))) ⟨m, fun _ => 0, ρ⟩ Q' := by
  refine Pipeline.θ_run_frameP_dmaR_aroundV pcfgs (tabs m) (dats m) 0 launch0 cell defs₀ Variants.none cellFacts ∅ bankRefs (Finset.empty_subset _) bank_sub m ρ main
    (fun c => (body_obligation m hT hinj c).loose) (fun c => (dats m 0 c).share_full fun _ => rfl) (fun _ _ => rfl) (V₀ m) [hostOps1]
    ?_ ?_ ?_ (left m) ?_ (fun _ _ => rfl) ?_ ?_ ?_ Q' hQ'
  · intro ops hops op hop
    obtain rfl := List.mem_singleton.mp hops
    obtain rfl := List.mem_singleton.mp hop
    exact tail_sub
  · intro ops hops op hop
    obtain rfl := List.mem_singleton.mp hops
    obtain rfl := List.mem_singleton.mp hop
    rfl
  · intro ops hops op hop w
    obtain rfl := List.mem_singleton.mp hops
    obtain rfl := List.mem_singleton.mp hop
    exact tail_keep w
  · exact Pipeline.hmainP_around pcfgs 0 defs₀ Variants.none m main [hostOps0] [hostOps1] hostOps0_sub (by repeat constructor) (fun c => main_chain c)
  · intro c k
    have hc : c = 0 := Subsingleton.elim _ _
    subst hc; rfl
  · intro c
    exact entry_in m c _
  · intro c
    exact entry_out m c _ _ (left_bank m c)

/-- The run's result and its unchanged arguments. -/
theorem run_kernel :
    θ_run defs (onTc (τ := τ) (main (F := F))) ⟨m, fun _ => 0, ρ⟩ (fun r => (∀ c : Dev nD,
      r.2.mem ((c : Thread nD τ).loc main_v7) = shapeCast S4x65536x128 (final m c) shapeCasts_S262144x128_S4x65536x128
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) := by
  refine run_main m ρ hT hinj _ fun r h => ?_
  obtain ⟨hc, hs⟩ : _ ∧ _ := ⟨fun c => (h.1 c), h.2⟩
  refine ⟨fun c => ?_, hs⟩
  obtain ⟨harr, hrest⟩ := hc c
  have hw : ∀ b : Ref sig .tc, Proc.devRef .tc b ∉ ({Proc.devRef .tc main_v7} : Finset (DevRef τ sig)) → (∀ w : Fin 3, Pipeline.arrRef spec0 w ≠ b) → b ∉ bankRefs →
      b ∈ Pipeline.restRefsP sig pre0 spec0 → b ∈ [main_arg0, main_arg1, main_arg2, main_arg3, main_arg4] →
      r.2.mem ((c : Thread nD τ).loc b) = m ((c : Thread nD τ).loc b) := by
    intro b h7 ha hb hr hv
    rw [hrest b hr]
    show StableHlo.after [_] _ _ = _
    rw [StableHlo.after_cons, StableHlo.after_nil, HloOp.result_of_not_mem _ _ h7, Pipeline.withArrays_of_ne _ _ _ _ _ ha, Pipeline.withR_of_not_mem _ _ _ _ _ hb, V₀_arg m c b hv]
  refine ⟨?_, ?_, hw main_arg1 (by decide) (by decide) (by decide) (by decide) (by decide), hw main_arg2 (by decide) (by decide) (by decide) (by decide) (by decide),
    hw main_arg3 (by decide) (by decide) (by decide) (by decide) (by decide), hw main_arg4 (by decide) (by decide) (by decide) (by decide) (by decide)⟩
  · rw [hrest main_v7 (by decide)]
    show StableHlo.after [_] _ _ = _
    rw [StableHlo.after_cons, StableHlo.after_nil, StableHlo.reshape_result, Pipeline.withArrays_of_ne _ _ _ _ _ (by decide), Pipeline.withR_of_mem _ _ _ _ _ (by decide), left_bank]
    rfl
  · refine (harr 1).trans (((dats m 0 c).arrAt_in 1 rfl _).trans ?_)
    exact V₀_arg m c main_arg0 (by decide)

end Conditions

end Cert.KernelIdeal.Rows

end
-- ==== Proof.Slots.lean ====
/-
  The preconditions read at their elements: every sample's task and slot in range, no two samples at one slot; and from
  them what the kernel's transfers need of the slot table.
-/
module

public import proofs.«01_k».proof.Defs
public import proofs.«01_k».proof.Proof.Run
public import proofs.«01_k».proof.Proof.Gen.Pre_slots_ok
public import proofs.«01_k».proof.Proof.Gen.Pre_one_nearest

@[expose] public section

noncomputable section

namespace Cert.Slots

open Idealize.ShloMosaic Idealize.ShloMosaic.TcCoe

theorem ofBool_one (p : Bool) : (BitVec.ofBool p = 1#1) ↔ p = true := by cases p <;> decide
theorem ofBool_and (p q : Bool) : IntOp.andi (BitVec.ofBool p) (BitVec.ofBool q) = BitVec.ofBool (p && q) := by cases p <;> cases q <;> decide
theorem ofBool_or (p q : Bool) : IntOp.ori (BitVec.ofBool p) (BitVec.ofBool q) = BitVec.ofBool (p || q) := by cases p <;> cases q <;> decide

/-- Tasks and slots in range, and no two samples with one task and slot, as numbers. -/
structure Good (a3 a4 : IVec Cert.Pre_slots_ok.S1024 32) : Prop where
  task : ∀ i, (a3 i).toNat < 4
  slot : ∀ i, (a4 i).toNat < 65536
  apart : ∀ i j : Cert.Pre_slots_ok.S1024.Idx, i ≠ j → (a3 i).toNat * 65536 + (a4 i).toNat ≠ (a3 j).toNat * 65536 + (a4 j).toNat

variable {F : FTy → Type} [FloatOps F]

theorem lt_of_signed (w : BitVec 32) (n : ℕ) (hn : n < 2147483648) (h0 : (0#32).sle w = true) (h1 : w.slt (BitVec.ofNat 32 n) = true) : w.toNat < n := by
  rw [BitVec.sle_iff_toInt_le] at h0
  rw [BitVec.slt_iff_toInt_lt] at h1
  have hw := BitVec.toInt_eq_toNat_cond w
  have hc := BitVec.toInt_eq_toNat_cond (BitVec.ofNat 32 n)
  rw [BitVec.toNat_ofNat, Nat.mod_eq_of_lt (by omega)] at hc
  rw [if_pos (by omega)] at hc
  have hz : (0#32).toInt = 0 := by decide
  have := w.isLt
  split at hw <;> omega

section
open Cert.Pre_slots_ok
variable [Cert.Pre_slots_ok.Facts]

/-- A sample's row of the square of pairs, and its column. -/
def sampleAt (n : ℕ) (h : n < 1024) : S1024.Idx := fun a => ⟨n, by fin_cases a; exact h⟩
def pairAt (i j : S1024.Idx) : S1024x1024.Idx := fun a => if a = 0 then ⟨(i 0).val, by fin_cases a <;> exact (i 0).isLt⟩ else ⟨(j 0).val, by fin_cases a <;> exact (j 0).isLt⟩

theorem byRow (v : IVec S1024 32) (i j : S1024.Idx) :
    broadcastInDim S1024x1024 ![0, 1] Facts.bcast_S1024x1_S1024x1024_0_1 (broadcastInDim S1024x1 ![0] Facts.bcast_S1024_S1024x1_0 v) (pairAt i j) = v i := by
  unfold broadcastInDim
  refine congrArg v (funext fun a => ?_)
  fin_cases a
  rfl
theorem byCol (v : IVec S1024 32) (i j : S1024.Idx) :
    broadcastInDim S1024x1024 ![0, 1] Facts.bcast_S1x1024_S1024x1024_0_1 (broadcastInDim S1x1024 ![1] Facts.bcast_S1024_S1x1024_1 v) (pairAt i j) = v j := by
  unfold broadcastInDim
  refine congrArg v (funext fun a => ?_)
  fin_cases a
  rfl

/-- A sample's slot word is its slot number. -/
theorem word_val (a b : BitVec 32) (ha : a.toNat < 4) (hb : b.toNat < 65536) :
    (IntOp.addi (IntOp.muli a 65536#32) b).toNat = a.toNat * 65536 + b.toNat := by
  show (a * 65536#32 + b).toNat = _
  rw [BitVec.toNat_add, BitVec.toNat_mul, show (65536#32).toNat = 65536 from rfl]
  omega

/-- The precondition on the slots, read. -/
theorem good (a0 : FVec F S1024x128 .f32) (a1 : FVec F S4x65536x128 .f32) (a2 : FVec F S4x512x128 .f32) (a3 a4 : IVec S1024 32)
    (h1 : (fn a0 a1 a2 a3 a4).1 = fun _ => 1#1) (h2 : (fn a0 a1 a2 a3 a4).2 = fun _ => 1#1) : Good a3 a4 := by
  have e1 := fun y => congrFun h1 y
  have e2 := fun i j => congrFun h2 (pairAt i j)
  simp only [fn, fn_part1, constantI, cmpi, IntOp.cmpi, andi, ori, muli, addi, iotaInDim, ofBool_one, ofBool_and, ofBool_or, Bool.and_eq_true, Bool.or_eq_true, byRow, byCol, bne_iff_ne, beq_iff_eq] at e1 e2
  have ht := fun y => lt_of_signed (a3 y) 4 (by omega) (e1 y).1.1.1 (e1 y).1.1.2
  have hs := fun y => lt_of_signed (a4 y) 65536 (by omega) (e1 y).1.2 (e1 y).2
  refine ⟨ht, hs, fun i j hij he => ?_⟩
  have hp := e2 i j
  rw [byRow, byCol, byRow, byCol] at hp
  rcases hp with h | h
  · refine h (BitVec.eq_of_toNat_eq ?_)
    exact ((word_val _ _ (ht i) (hs i)).trans he).trans (word_val _ _ (ht j) (hs j)).symm
  · refine hij (funext fun a => ?_)
    have h' : (BitVec.ofNat 32 (i 0).val).toNat = (BitVec.ofNat 32 (j 0).val).toNat := congrArg BitVec.toNat h
    rw [BitVec.toNat_ofNat, BitVec.toNat_ofNat] at h'
    have hi : (i 0).val < 1024 := (i 0).isLt
    have hj : (j 0).val < 1024 := (j 0).isLt
    fin_cases a
    exact Fin.ext (by rw [Nat.mod_eq_of_lt (by omega), Nat.mod_eq_of_lt (by omega)] at h'; exact h')

end

/-- The same of the precondition of the value claim, which states the slots' part first. -/
theorem good_near [Cert.Pre_slots_ok.Facts] [Cert.Pre_one_nearest.Facts] (a0 : FVec F Cert.Pre_slots_ok.S1024x128 .f32) (a1 : FVec F Cert.Pre_slots_ok.S4x65536x128 .f32) (a2 : FVec F Cert.Pre_slots_ok.S4x512x128 .f32) (a3 a4 : IVec Cert.Pre_slots_ok.S1024 32)
    (h1 : (Cert.Pre_one_nearest.fn a0 a1 a2 a3 a4).1 = fun _ => 1#1) (h2 : (Cert.Pre_one_nearest.fn a0 a1 a2 a3 a4).2.1 = fun _ => 1#1) : Good a3 a4 :=
  good a0 a1 a2 a3 a4 h1 h2

/-! ## The kernel's slot table -/

section
open Cert.KernelIdeal Cert.KernelIdeal.Gen Cert.KernelIdeal.Rows
variable [Named F] (m : (ℓ : Loc nD τ sig) → Buf (Elt F) ℓ)

/-- A sample's bank row is its task's 65536 rows' base and its slot. -/
theorem rowOf_tab (c : Dev nD) (a3 a4 : IVec S1024 32) (h3 : m ((c : Thread nD τ).loc main_arg3) = a3) (h4 : m ((c : Thread nD τ).loc main_arg4) = a4)
    (hg : Good a3 a4) (t : Fin 1024) : rowOf c (tab m c) t = (a3 (sampleAt t.val t.isLt)).toNat * 65536 + (a4 (sampleAt t.val t.isLt)).toNat := by
  subst h3 h4
  unfold rowOf tab
  rw [V₀_v5]
  exact word_val _ _ (hg.task (sampleAt t.val t.isLt)) (hg.slot (sampleAt t.val t.isLt))

theorem rows_lt (hg : ∀ c : Dev nD, Good (m ((c : Thread nD τ).loc main_arg3)) (m ((c : Thread nD τ).loc main_arg4))) :
    ∀ (c : Dev nD) (t : Fin 1024), rowOf c (tab m c) t < 262144 := by
  intro c t
  rw [rowOf_tab m c _ _ rfl rfl (hg c) t]
  have h1 := (hg c).task (sampleAt t.val t.isLt)
  have h2 := (hg c).slot (sampleAt t.val t.isLt)
  omega

theorem rows_apart (hg : ∀ c : Dev nD, Good (m ((c : Thread nD τ).loc main_arg3)) (m ((c : Thread nD τ).loc main_arg4))) :
    ∀ (c : Dev nD) (t t' : Fin 1024), t ≠ t' → rowOf c (tab m c) t ≠ rowOf c (tab m c) t' := by
  intro c t t' ht
  rw [rowOf_tab m c _ _ rfl rfl (hg c) t, rowOf_tab m c _ _ rfl rfl (hg c) t']
  exact (hg c).apart _ _ fun h => ht (Fin.ext (congrArg Fin.val (congrFun h 0)))

end

end Cert.Slots

end
-- ==== Proof.Frames.lean ====
/-
  The frames of the kernel: of its idealization at the extended reals, and of the kernel as printed at machine floats,
  which is the idealization's program with the mask's constant put back.
-/
module

public import proofs.«01_k».proof.Defs
public import proofs.«01_k».proof.Proof.Run
public import proofs.«01_k».proof.Proof.Slots
public import proofs.«01_k».proof.Proof.Gen.Kernel
public import Idealize.ShloMosaic.Lib.StableHlo.RunHlo
public import proofs.«01_k».proof.Proof.Gen.KernelIdeal

@[expose] public section

noncomputable section

namespace Cert.Frames

open Idealize.ShloMosaic Idealize.ShloMosaic.TcCoe Idealize.SL.Sem

/-! ## The idealization -/

theorem goodIdeal [Cert.Pre_slots_ok.Facts] (m : (ℓ : Loc Cert.KernelIdeal.nD Cert.KernelIdeal.τ Cert.KernelIdeal.sig) → Buf (Elt Ideal) ℓ) (h : Cert.Pre_KernelIdeal m) (c : Dev Cert.KernelIdeal.nD) :
    Slots.Good (m ((c : Thread Cert.KernelIdeal.nD Cert.KernelIdeal.τ).loc Cert.KernelIdeal.main_arg3)) (m ((c : Thread Cert.KernelIdeal.nD Cert.KernelIdeal.τ).loc Cert.KernelIdeal.main_arg4)) :=
  Slots.good _ _ _ _ _ (h c).1 (h c).2

theorem goodNear [Cert.Pre_slots_ok.Facts] [Cert.Pre_one_nearest.Facts] (m : (ℓ : Loc Cert.KernelIdeal.nD Cert.KernelIdeal.τ Cert.KernelIdeal.sig) → Buf (Elt Ideal) ℓ) (h : Cert.Pre_KernelIdeal_one_nearest m) (c : Dev Cert.KernelIdeal.nD) :
    Slots.Good (m ((c : Thread Cert.KernelIdeal.nD Cert.KernelIdeal.τ).loc Cert.KernelIdeal.main_arg3)) (m ((c : Thread Cert.KernelIdeal.nD Cert.KernelIdeal.τ).loc Cert.KernelIdeal.main_arg4)) :=
  Slots.good_near _ _ _ _ _ (h c).1 (h c).2.1

/-- The idealized kernel's frame, over the slots' precondition. -/
theorem kernelIdeal [Cert.Pre_slots_ok.Facts] : Cert.quiescent_KernelIdeal := by
  intro m g h
  refine θ_run_mono (KernelIdeal.Rows.run_kernel m g (Slots.rows_lt m (goodIdeal m h)) (Slots.rows_apart m (goodIdeal m h))) ?_
  exact fun r hr => ⟨fun c => (hr.1 c).2, hr.2⟩

/-- The idealized kernel's frame, over the value claim's precondition. -/
theorem kernelIdeal_near [Cert.Pre_slots_ok.Facts] [Cert.Pre_one_nearest.Facts] : Cert.quiescent_KernelIdeal_pre_one_nearest := by
  intro m g h
  refine θ_run_mono (KernelIdeal.Rows.run_kernel m g (Slots.rows_lt m (goodNear m h)) (Slots.rows_apart m (goodNear m h))) ?_
  exact fun r hr => ⟨fun c => (hr.1 c).2, hr.2⟩

/-! ## The kernel as printed -/

/-- The mask's name read as the constant the kernel prints, at machine floats. -/
@[reducible] def asPrinted : Named Bits := ⟨fun _ _ _ b => Scalar.ofBits _ b⟩

theorem body_eq : @Cert.KernelIdeal.cc0__body Bits _ asPrinted _ = @Cert.Kernel.cc0__body Bits _ _ := rfl

theorem defs₀_eq : @Cert.KernelIdeal.defs₀ Bits _ asPrinted _ = @Cert.Kernel.defs₀ Bits _ _ := by
  refine congrArg (Defs.onTc (nD := Cert.Kernel.nD) (τ := Cert.Kernel.τ) (sig := Cert.Kernel.sig) (Val := Elt Bits) (Λ := Cert.Kernel.Λ₀)) (funext fun ℓ => funext fun x => ?_)
  match ℓ, x with
  | 0, (t, s) => exact congrFun (congrFun (congrFun (congrFun (congrFun (congrFun (congrFun (congrFun (congrFun (congrFun (congrFun (congrFun (congrFun (congrFun (congrFun (congrFun body_eq _) _) _) _) _) _) _) _) _) _) _) _) _) _) _) _
  | ⟨_ + 1, h⟩, _ => exact absurd h (Nat.not_lt.2 (Nat.le_add_left _ _))

theorem defs_eq : @Cert.KernelIdeal.defs Bits _ asPrinted _ = @Cert.Kernel.defs Bits _ _ :=
  congrArg (Pipeline.defs Cert.Kernel.pcfgs) defs₀_eq
theorem main_eq : @Cert.KernelIdeal.main Bits _ asPrinted _ = Cert.Kernel.main := rfl

/-- The printed kernel's slots, from its precondition. -/
theorem goodBits [Cert.Pre_slots_ok.Facts] (m : (ℓ : Loc Cert.Kernel.nD Cert.Kernel.τ Cert.Kernel.sig) → Buf (Elt Bits) ℓ) (h : Cert.Pre_Kernel m) (c : Dev Cert.Kernel.nD) :
    Slots.Good (m ((c : Thread Cert.Kernel.nD Cert.Kernel.τ).loc Cert.Kernel.main_arg3)) (m ((c : Thread Cert.Kernel.nD Cert.Kernel.τ).loc Cert.Kernel.main_arg4)) :=
  Slots.good _ _ _ _ _ (h c).1 (h c).2

/-- The printed kernel's frame. -/
theorem kernel [Cert.Pre_slots_ok.Facts] : Cert.quiescent_Kernel := by
  intro m g h
  have hr := @KernelIdeal.Rows.run_kernel Bits _ asPrinted m g (@Slots.rows_lt Bits _ asPrinted m (goodBits m h)) (@Slots.rows_apart Bits _ asPrinted m (goodBits m h))
  rw [defs_eq, main_eq] at hr
  exact θ_run_mono hr fun r hr => ⟨fun c => (hr.1 c).2, hr.2⟩

end Cert.Frames

end
-- ==== Proof.Ref.lean ====
/-
  The reference's run.
-/
module

public import proofs.«01_k».proof.Defs
public import proofs.«01_k».proof.Proof.Gen.ReferenceIdeal
public import Idealize.ShloMosaic.Lib.StableHlo
public import Idealize.ShloMosaic.Lib.StableHlo.Run
public import Idealize.ShloMosaic.Lib.StableHlo.RunHlo
public import Idealize.ShloMosaic.Lib.Claim
public import Idealize.ShloMosaic.Lib.Quiescent

@[expose] public section

noncomputable section

namespace Cert.ReferenceIdeal.Plain

open Cert.ReferenceIdeal Cert.ReferenceIdeal.Gen
open Idealize.ShloMosaic Idealize.ShloMosaic.TcCoe Idealize.SL.Sem

/-- The reference runs and leaves its arguments as they were, every semaphore at zero. -/
theorem frame : Cert.quiescent_ReferenceIdeal := by
  intro m g _
  hlo_run
  · intro c; exact ⟨trivial, trivial, trivial, trivial, trivial⟩
  · exact sem_eq_zero_of_no_sems rfl _

/-- The same over the value claim's precondition, which the frame does not need. -/
theorem frame_near [Cert.Pre_one_nearest.Facts] : Cert.quiescent_ReferenceIdeal_pre_one_nearest := fun m g _ => frame m g trivial

end Cert.ReferenceIdeal.Plain

end
-- ==== Proof.Math.lean ====
/-
  The mathematics of the claim, of no program: the distance (less the sample's own square) from a sample to a centre, and
  the one centre of the sample's task at which it is least.
-/
module

public import Idealize.ShloMosaic.Lib.Pointwise
public import Idealize.ShloMosaic.PureOps.Ideal

@[expose] public section

noncomputable section

namespace Cert.Near

open Idealize.ShloMosaic

abbrev Samples := FVec Ideal (⟨2, ![1024, 128]⟩ : Shape) .f32
abbrev Centers := FVec Ideal (⟨2, ![2048, 128]⟩ : Shape) .f32

/-- A sample's distance from a centre, squared, without the sample's own square. -/
def dist (X : Samples) (C : Centers) (i : Fin 1024) (j : Fin 2048) : EReal :=
  ∑ k, C (ix2 j k) * C (ix2 j k) - 2 * ∑ k, X (ix2 i k) * C (ix2 j k)

theorem two_word : Ideal.ofBits .f32 0x40000000#32 = 2 := by
  simp [Ideal.ofBits, Ideal.ieee]
  rw [← EReal.coe_mul]
  norm_num
  rfl
theorem minus_two_word : Ideal.ofBits .bf16 0xC000#16 = ((-2 : ℝ) : EReal) := by
  simp [Ideal.ofBits, Ideal.ieee]
  rw [← EReal.coe_mul]
  norm_num
theorem top_word : Ideal.ofBits .f32 0x7F800000#32 = ⊤ := by simp [Ideal.ofBits, Ideal.ieee]

/-- Every entry a real number. -/
def Finite {s : Shape} (X : FVec Ideal s .f32) : Prop := ∀ x, ∃ r : ℝ, X x = (r : EReal)

/-- Centre `b` is of task `w` and nearer to sample `i` than every other centre of the task. -/
structure Best (X : Samples) (C : Centers) (w : ℕ) (i : Fin 1024) (b : Fin 2048) : Prop where
  own : b.val / 512 = w
  lt : ∀ j : Fin 2048, j.val / 512 = w → j ≠ b → dist X C i b < dist X C i j

theorem coe_sum {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

/-- Between finite entries the distance is a real number. -/
theorem dist_real (X : Samples) (C : Centers) (hX : Finite X) (hC : Finite C) (i : Fin 1024) (j : Fin 2048) : ∃ r : ℝ, dist X C i j = r := by
  choose x hx using hX
  choose c hc using hC
  refine ⟨∑ k, c (ix2 j k) * c (ix2 j k) - 2 * ∑ k, x (ix2 i k) * c (ix2 j k), ?_⟩
  unfold dist
  simp only [hx, hc, ← EReal.coe_mul, coe_sum]
  rw [show (2 : EReal) = ((2 : ℝ) : EReal) from rfl, ← EReal.coe_mul, ← EReal.coe_sub]

/-- The masked distance as one sum: minus twice the products, the centre's square, and +∞ unless the centre is of the task. -/
theorem masked_sum (X : Samples) (C : Centers) (hX : Finite X) (hC : Finite C) (i : Fin 1024) (j : Fin 2048) (own : Prop) [Decidable own] :
    ∑ k, X (ix2 i k) * (C (ix2 j k) * ((-2 : ℝ) : EReal)) + (∑ k, C (ix2 j k) * C (ix2 j k) + if own then 0 else ⊤)
      = if own then dist X C i j else ⊤ := by
  choose x hx using hX
  choose c hc using hC
  unfold dist
  simp only [hx, hc, ← EReal.coe_mul, coe_sum]
  by_cases h : own
  · rw [if_pos h, if_pos h, add_zero, show (2 : EReal) = ((2 : ℝ) : EReal) from rfl, ← EReal.coe_mul, ← EReal.coe_sub, ← EReal.coe_add, Finset.mul_sum]
    refine congrArg Real.toEReal ?_
    rw [sub_eq_add_neg, add_comm, ← Finset.sum_neg_distrib]
    exact congrArg _ (Finset.sum_congr rfl fun k _ => by ring)
  · rw [if_neg h, if_neg h, EReal.coe_add_top, EReal.coe_add_top]

/-- The masked distances' minimum is the best centre's distance, and no other centre attains it. -/
theorem Best.attained {X : Samples} {C : Centers} {w : ℕ} {i : Fin 1024} {b : Fin 2048} (hb : Best X C w i b) (hX : Finite X) (hC : Finite C) (j : Fin 2048) :
    (if j.val / 512 = w then dist X C i j else ⊤)
      = Finset.fold min ⊤ (fun j : Fin 2048 => if j.val / 512 = w then dist X C i j else ⊤) Finset.univ ↔ j = b := by
  obtain ⟨v, hv⟩ := dist_real X C hX hC i b
  have hlt : ∀ j : Fin 2048, j ≠ b → dist X C i b < if j.val / 512 = w then dist X C i j else ⊤ := by
    intro j hj
    split
    · exact hb.lt j ‹_› hj
    · rw [hv]; exact EReal.coe_lt_top v
  have hmin : Finset.fold min ⊤ (fun j : Fin 2048 => if j.val / 512 = w then dist X C i j else ⊤) Finset.univ = dist X C i b := by
    refine le_antisymm ((Finset.fold_min_le _).mpr (Or.inr ⟨b, Finset.mem_univ b, ?_⟩)) ((Finset.le_fold_min _).mpr ⟨le_top, fun j _ => ?_⟩)
    · rw [if_pos hb.own]
    · by_cases hj : j = b
      · rw [hj, if_pos hb.own]
      · exact (hlt j hj).le
  rw [hmin]
  refine ⟨fun h => ?_, fun h => ?_⟩
  · by_contra hj
    exact absurd h (hlt j hj).ne'
  · rw [h, if_pos hb.own]

/-- A centre at which the masked distances' minimum is attained alone is the best of its task. -/
theorem best_of_single (X : Samples) (C : Centers) (hX : Finite X) (hC : Finite C) (w : ℕ) (hw : w < 4) (i : Fin 1024) (od : Fin 2048 → EReal)
    (hown : ∀ j : Fin 2048, j.val / 512 = w → od j = dist X C i j) (hoff : ∀ j : Fin 2048, j.val / 512 ≠ w → od j = ⊤)
    (n : BitVec 32) (h : ∀ j : Fin 2048, Finset.fold min ⊤ od Finset.univ < od j ∨ BitVec.ofNat 32 j.val = n) : ∃ b, Best X C w i b := by
  obtain ⟨b, -, hb⟩ := Finset.exists_min_image Finset.univ od Finset.univ_nonempty
  have hle : od b ≤ Finset.fold min ⊤ od Finset.univ := (Finset.le_fold_min _).mpr ⟨le_top, fun x _ => hb x (Finset.mem_univ x)⟩
  have hbn : BitVec.ofNat 32 b.val = n := (h b).resolve_left (not_lt.mpr hle)
  have hbw : b.val / 512 = w := by
    by_contra hne
    let j₀ : Fin 2048 := ⟨w * 512, by omega⟩
    have hj : j₀.val / 512 = w := Nat.mul_div_cancel w (by norm_num)
    obtain ⟨r, hr⟩ := dist_real X C hX hC i j₀
    have := hb j₀ (Finset.mem_univ _)
    rw [hoff b hne, hown j₀ hj, hr] at this
    exact absurd this (not_le.mpr (EReal.coe_lt_top r))
  refine ⟨b, hbw, fun j hj hne => ?_⟩
  rw [← hown b hbw, ← hown j hj]
  refine lt_of_le_of_lt hle ((h j).resolve_right fun hjn => hne ?_)
  have e := congrArg BitVec.toNat (hjn.trans hbn.symm)
  rw [BitVec.toNat_ofNat, BitVec.toNat_ofNat] at e
  exact Fin.ext (by omega)

end Cert.Near

end
-- ==== Proof.Near.lean ====
/-
  The value claim's precondition, read: finite features and centres, and one centre of its task's nearest to each sample.
-/
module

public import proofs.«01_k».proof.Defs
public import proofs.«01_k».proof.Proof.Gen.Pre_one_nearest
public import proofs.«01_k».proof.Proof.Math
public import Idealize.ShloMosaic.Lib.Pointwise

@[expose] public section

noncomputable section

namespace Cert.Near

open Idealize.ShloMosaic Cert.Pre_one_nearest

theorem ofBool_one (p : Bool) : (BitVec.ofBool p = 1#1) ↔ p = true := by cases p <;> decide
theorem ofBool_and (p q : Bool) : IntOp.andi (BitVec.ofBool p) (BitVec.ofBool q) = BitVec.ofBool (p && q) := by cases p <;> cases q <;> decide
theorem ofBool_or (p q : Bool) : IntOp.ori (BitVec.ofBool p) (BitVec.ofBool q) = BitVec.ofBool (p || q) := by cases p <;> cases q <;> decide

/-- What is below +∞ in absolute value is a real number. -/
theorem real_of_abs (x : EReal) (h : max x (-x) < ⊤) : ∃ r : ℝ, x = r := by
  induction x with
  | bot => simp at h
  | coe r => exact ⟨r, rfl⟩
  | top => simp at h

variable [Facts]

/-- The features are finite. -/
theorem features (a0 : FVec Ideal S1024x128 .f32) (a1 : FVec Ideal S4x65536x128 .f32) (a2 : FVec Ideal S4x512x128 .f32) (a3 a4 : IVec S1024 32)
    (h : (fn a0 a1 a2 a3 a4).2.2.1 = fun _ => 1#1) : Finite a0 := by
  intro x
  have hp := congrFun h x
  dsimp only [fn, fn_part1, fn_part2, fn_part3, fn_where] at hp
  pointwise at hp
  exact real_of_abs _ (by rw [ofBool_one, decide_eq_true_iff, top_word] at hp; exact hp)

/-- The centres are finite. -/
theorem centers (a0 : FVec Ideal S1024x128 .f32) (a1 : FVec Ideal S4x65536x128 .f32) (a2 : FVec Ideal S4x512x128 .f32) (a3 a4 : IVec S1024 32)
    (C : FVec Ideal S2048x128 .f32) (hC : shapeCast S2048x128 a2 Facts.shapeCasts_S4x512x128_S2048x128 = C)
    (h : (fn a0 a1 a2 a3 a4).2.2.2.1 = fun _ => 1#1) : Finite C := by
  intro x
  have hp := congrFun h x
  dsimp only [fn, fn_part1, fn_part2, fn_part3, fn_where] at hp
  rw [hC] at hp
  pointwise at hp
  exact real_of_abs _ (by rw [ofBool_one, decide_eq_true_iff, top_word] at hp; exact hp)

/-- Whether centre `j` is of task `w`, as the words tell it. -/
theorem own_word (w : BitVec 32) (hw : w.toNat < 4) (j : Fin 2048) (x y : EReal) :
    Scalar.select (IntOp.andi (IntOp.cmpi .sge (BitVec.ofNat 32 j.val) (IntOp.muli w 512#32))
      (IntOp.cmpi .slt (BitVec.ofNat 32 j.val) (IntOp.addi (IntOp.muli w 512#32) 512#32))) x y = if j.val / 512 = w.toNat then x else y := by
  have hm : (IntOp.muli w 512#32).toNat = w.toNat * 512 := by
    show (w * 512#32).toNat = _
    rw [BitVec.toNat_mul, show (512#32).toNat = 512 from rfl]; omega
  have ha : (IntOp.addi (IntOp.muli w 512#32) 512#32).toNat = w.toNat * 512 + 512 := by
    show (IntOp.muli w 512#32 + 512#32).toNat = _
    rw [BitVec.toNat_add, hm, show (512#32).toNat = 512 from rfl]; omega
  have hj : (BitVec.ofNat 32 j.val).toNat = j.val := by rw [BitVec.toNat_ofNat]; omega
  have hjl := j.isLt
  have hc : IntOp.andi (IntOp.cmpi .sge (BitVec.ofNat 32 j.val) (IntOp.muli w 512#32))
      (IntOp.cmpi .slt (BitVec.ofNat 32 j.val) (IntOp.addi (IntOp.muli w 512#32) 512#32)) = BitVec.ofBool (decide (j.val / 512 = w.toNat)) := by
    simp only [IntOp.cmpi]
    rw [ofBool_and]
    refine congrArg BitVec.ofBool (Bool.eq_iff_iff.mpr ?_)
    rw [Bool.and_eq_true, BitVec.sle_iff_toInt_le, BitVec.slt_iff_toInt_lt, decide_eq_true_iff,
      BitVec.toInt_eq_toNat_of_lt (by omega), BitVec.toInt_eq_toNat_of_lt (by omega), BitVec.toInt_eq_toNat_of_lt (by omega), hm, ha, hj]
    omega
  rw [hc]
  by_cases h : j.val / 512 = w.toNat
  · simp [h, Scalar.select]
  · simp [h, Scalar.select]

/-- The precondition's last part at a sample and a center: the entry is above the row's least entry, or the center is the row's `n`. -/
theorem above_or (E : FVec Ideal S1024x2048 .f32) (n : IVec S1024 32)
    (h : ori (cmpf .ogt E (broadcastInDim S1024x2048 ![0, 1] Facts.bcast_S1024x1_S1024x2048_0_1 (broadcastInDim S1024x1 ![0] Facts.bcast_S1024_S1024x1_0
      (Host.reduce FloatOps.minimumf E (constant S_ .f32 0x7F800000#32) Facts.reducesTo_S1024x2048_S1024_d1 Facts.h_S_))))
      (cmpi .eq (broadcastInDim S1024x2048 ![0, 1] Facts.bcast_S1x2048_S1024x2048_0_1 (broadcastInDim S1x2048 ![1] Facts.bcast_S2048_S1x2048_1 (iotaInDim S2048 32 0)))
        (broadcastInDim S1024x2048 ![0, 1] Facts.bcast_S1024x1_S1024x2048_0_1 (broadcastInDim S1024x1 ![0] Facts.bcast_S1024_S1024x1_0 n))) = fun _ => 1#1) (i : Fin 1024) (j : Fin 2048) :
    Finset.fold min ⊤ (fun j : Fin 2048 => E (ix2 i j)) Finset.univ < E (ix2 i j) ∨ BitVec.ofNat 32 j.val = n (ix1 i) := by
  have hp := congrFun h (ix2 i j)
  pointwise at hp
  simp only [IntOp.cmpi] at hp
  rw [ofBool_or, ofBool_one, Bool.or_eq_true, decide_eq_true_iff, beq_iff_eq, top_word] at hp
  exact hp

/-- Under the last part of the precondition, sample `i` has a best center of its task. -/
theorem single_at (a0 : FVec Ideal S1024x128 .f32) (a1 : FVec Ideal S4x65536x128 .f32) (a2 : FVec Ideal S4x512x128 .f32) (a3 a4 : IVec S1024 32)
    (C : FVec Ideal S2048x128 .f32) (hC : shapeCast S2048x128 a2 Facts.shapeCasts_S4x512x128_S2048x128 = C)
    (h : (fn a0 a1 a2 a3 a4).2.2.2.2 = fun _ => 1#1) (hX : Finite a0) (hF : Finite C) (i : Fin 1024) (hw : (a3 (ix1 i)).toNat < 4) :
    ∃ b, Best a0 C (a3 (ix1 i)).toNat i b := by
  have hn : ∃ n : BitVec 32, ∀ j : Fin 2048,
      Finset.fold min ⊤ (fun j : Fin 2048 => if j.val / 512 = (a3 (ix1 i)).toNat then dist a0 C i j else ⊤) Finset.univ
        < (if j.val / 512 = (a3 (ix1 i)).toNat then dist a0 C i j else ⊤) ∨ BitVec.ofNat 32 j.val = n := by
    dsimp only [fn, fn_part1, fn_part2, fn_part3] at h
    rw [hC] at h
    generalize hE : fn_where (F := Ideal) _ _ _ = E at h
    have hv : ∀ j : Fin 2048, E (ix2 i j) = if j.val / 512 = (a3 (ix1 i)).toNat then dist a0 C i j else ⊤ := by
      intro j
      rw [← hE]
      dsimp only [fn_where, id_eq]
      pointwise
      rw [own_word _ hw, two_word, top_word]
      rfl
    generalize fn_argmin (F := Ideal) _ = n at h
    refine ⟨n (ix1 i), fun j => ?_⟩
    have hp := above_or E n h i j
    simp only [hv] at hp
    exact hp
  obtain ⟨n, hn⟩ := hn
  exact best_of_single a0 C hX hF _ hw i (fun j => if j.val / 512 = (a3 (ix1 i)).toNat then dist a0 C i j else ⊤)
    (fun j hj => if_pos hj) (fun j hj => if_neg hj) n hn

end Cert.Near

end
-- ==== Proof.Windows.lean ====
/-
  What the three windows hold at a step, read at an index: the step's rows of the task numbers and of the samples, and
  every center.
-/
module

public import proofs.«01_k».proof.Proof.Run
public import Idealize.ShloMosaic.Lib.Pipeline.Value

@[expose] public section

noncomputable section

namespace Cert.KernelIdeal.Rows

open Cert.KernelIdeal Cert.KernelIdeal.Gen
open Idealize.ShloMosaic Idealize.ShloMosaic.TcCoe
open Idealize.SL.Sem
open Idealize.ShloMosaic.Pipeline (Dat Cfg Window heldIn heldIn_of_fetch heldIn_of_not_fetch)

variable {F : FTy → Type} [FloatOps F] [Named F]

variable (m : (ℓ : Loc nD τ sig) → Buf (Elt F) ℓ)

/-- The step's number is the block's number on the rows' axis. -/
theorem rows_index (t : Fin grid0.N) : cc0_transform_0 (grid0.coords t) = ![t.val, 0] := by
  obtain h | h | h | h := fin_N0 t <;> subst h <;> decide
theorem index_0 (t : Fin (cfgK m).N) : ((cfgK m).win 0).index t = ![t.val, 0] := rows_index t
theorem index_1 (t : Fin (cfgK m).N) : ((cfgK m).win 1).index t = ![t.val, 0] := rows_index t
theorem index_2 (t : Fin (cfgK m).N) : ((cfgK m).win 2).index t = ![0, 0] := rfl

/-- A window whose block number differs from step to step is fetched at every step. -/
theorem fetch_rows (w : Fin 3) (t : Fin (cfgK m).N) (hw : ((cfgK m).win w).isOut = false) (a : Fin ((cfgK m).win w).shape.rank)
    (h : ∀ t, ((cfgK m).win w).index t a = t.val) : ((cfgK m).win w).fetch t = true := by
  refine (((cfgK m).win w).fetch_in hw t).mpr ?_
  by_cases h0 : t.val = 0
  · exact Or.inl h0
  · refine Or.inr ⟨Nat.pos_of_ne_zero h0, fun e => ?_⟩
    have := congrFun e a
    rw [h, h] at this
    dsimp only at this
    omega

/-- The task numbers' window at a step, read at an index. -/
theorem held_0 (c : Dev nD) (t : Fin (cfgK m).N) (y : S256x1.Idx) (z : S1024x1.Idx)
    (h0 : (z 0).val = t.val * 256 + (y 0).val) (h1 : (z 1).val = (y 1).val) :
    held m c 0 t y = (V₀ m c (Proc.devRef .tc main_v1) : S1024x1.Idx → BitVec 32) z := by
  unfold held
  rw [heldIn_of_fetch (arrs m c) 0 t (fetch_rows m 0 t rfl (show Fin ((cfgK m).win 0).shape.rank from (0 : Fin 2)) fun t => congrFun (index_0 m t) (0 : Fin 2))]
  show (V₀ m c (Proc.devRef .tc main_v1) : S1024x1.Idx → BitVec 32) ((((cfgK m).win 0).rect t).emb y) = _
  refine congrArg _ (funext fun a => Fin.ext ?_)
  rw [((cfgK m).win 0).rect_emb_val t y a, index_0]
  fin_cases a
  · exact h0.symm
  · exact (((Nat.zero_mul _).symm ▸ Nat.zero_add _ : 0 * 1 + (y 1).val = (y 1).val)).trans h1.symm

/-- The samples' window at a step, read at an index. -/
theorem held_1 (c : Dev nD) (t : Fin (cfgK m).N) (y : S256x128.Idx) (z : S1024x128.Idx)
    (h0 : (z 0).val = t.val * 256 + (y 0).val) (h1 : (z 1).val = (y 1).val) :
    held m c 1 t y = (V₀ m c (Proc.devRef .tc main_arg0) : S1024x128.Idx → F .f32) z := by
  unfold held
  rw [heldIn_of_fetch (arrs m c) 1 t (fetch_rows m 1 t rfl (show Fin ((cfgK m).win 1).shape.rank from (0 : Fin 2)) fun t => congrFun (index_1 m t) (0 : Fin 2))]
  show (V₀ m c (Proc.devRef .tc main_arg0) : S1024x128.Idx → F .f32) ((((cfgK m).win 1).rect t).emb y) = _
  refine congrArg _ (funext fun a => Fin.ext ?_)
  rw [((cfgK m).win 1).rect_emb_val t y a, index_1]
  fin_cases a
  · exact h0.symm
  · exact ((by omega : 0 * 128 + (y 1).val = (y 1).val)).trans h1.symm

/-- The centers' window at every step: all the centers. -/
theorem held_2 (c : Dev nD) : ∀ (n : ℕ) (h : n < (cfgK m).N) (y : S2048x128.Idx),
    heldIn (cfgK m) (arrs m c) 2 n h y = (V₀ m c (Proc.devRef .tc main_v0) : S2048x128.Idx → F .f32) y
  | 0, h, y => by
    rw [heldIn_of_fetch (arrs m c) 2 ⟨0, h⟩ ((((cfgK m).win 2).fetch_in rfl ⟨0, h⟩).mpr (Or.inl rfl))]
    show (V₀ m c (Proc.devRef .tc main_v0) : S2048x128.Idx → F .f32) ((((cfgK m).win 2).rect ⟨0, h⟩).emb y) = _
    refine congrArg _ (funext fun a => Fin.ext ?_)
    rw [((cfgK m).win 2).rect_emb_val ⟨0, h⟩ y a, index_2]
    fin_cases a
    · exact (by omega : 0 * 2048 + (y 0).val = (y 0).val)
    · exact (by omega : 0 * 128 + (y 1).val = (y 1).val)
  | n + 1, h, y => by
    rw [heldIn_of_not_fetch (arrs m c) 2 n h (Bool.eq_false_iff.mpr fun hf => by
      rcases (((cfgK m).win 2).fetch_in rfl _).mp hf with h | ⟨_, h⟩
      · exact absurd h (Nat.succ_ne_zero n)
      · exact h rfl)]
    exact held_2 c n _ y

end Cert.KernelIdeal.Rows

end
-- ==== Proof.Blend.lean ====
/-
  The rows that the steps store, at the ideal instance: each sample blended with the one nearest center of its task.
-/
module

public import proofs.«01_k».proof.Proof.Math
public import proofs.«01_k».proof.Proof.Windows
public import Idealize.ShloMosaic.Lib.Pointwise
public import Idealize.ShloMosaic.Lib.Routing.Words
public import Idealize.ShloMosaic.Lib.WordArith

@[expose] public section

noncomputable section

namespace Cert.KernelIdeal.Rows

open Cert.KernelIdeal Cert.KernelIdeal.Gen
open Idealize.ShloMosaic Idealize.ShloMosaic.TcCoe
open Idealize.SL.Sem

/-- The center's group of 512, as the kernel's floor division computes it. -/
theorem group_word (x : Fin 2048) :
    Scalar.select
      (IntOp.andi
        (IntOp.cmpi .ne
          (IntOp.subi (BitVec.setWidth 32 (IntOp.cmpi .sgt (BitVec.ofNat 32 x.val) 0#32)) (BitVec.setWidth 32 (IntOp.cmpi .slt (BitVec.ofNat 32 x.val) 0#32)))
          (Scalar.subi (Scalar.extui (Scalar.cmpi .sgt 512#32 0#32)) (Scalar.extui (Scalar.cmpi .slt 512#32 0#32))))
        (IntOp.cmpi .ne (IntOp.remsi .vector (BitVec.ofNat 32 x.val) 512#32) 0#32))
      (IntOp.subi (IntOp.divsi .vector (BitVec.ofNat 32 x.val) 512#32) 1#32)
      (IntOp.divsi .vector (BitVec.ofNat 32 x.val) 512#32) = BitVec.ofNat 32 (x.val / 512) := by
  have hx := x.isLt
  rw [show (512#32 : BitVec 32) = BitVec.ofNat 32 512 from rfl, Routing.divsi_word .vector (by omega) (by omega) (by omega),
    Routing.remsi_word .vector (by omega) (by omega) (by omega)]
  have hc : IntOp.andi
        (IntOp.cmpi .ne
          (IntOp.subi (BitVec.setWidth 32 (IntOp.cmpi .sgt (BitVec.ofNat 32 x.val) 0#32)) (BitVec.setWidth 32 (IntOp.cmpi .slt (BitVec.ofNat 32 x.val) 0#32)))
          (Scalar.subi (Scalar.extui (Scalar.cmpi .sgt (BitVec.ofNat 32 512) 0#32)) (Scalar.extui (Scalar.cmpi .slt (BitVec.ofNat 32 512) 0#32))))
        (IntOp.cmpi .ne (BitVec.ofNat 32 (x.val % 512)) 0#32) = 0#1 := by
    by_cases h0 : x.val = 0
    · rw [h0]; decide
    · have hi : (BitVec.ofNat 32 x.val).toInt = x.val := by
        rw [BitVec.toInt_eq_toNat_of_lt (by rw [BitVec.toNat_ofNat]; omega), BitVec.toNat_ofNat]; omega
      have h1 : IntOp.cmpi .sgt (BitVec.ofNat 32 x.val) 0#32 = 1#1 := by
        show BitVec.ofBool (BitVec.slt 0#32 (BitVec.ofNat 32 x.val)) = _
        rw [(BitVec.slt_iff_toInt_lt).mpr (by rw [hi]; simp; omega)]; rfl
      have h2 : IntOp.cmpi .slt (BitVec.ofNat 32 x.val) 0#32 = 0#1 := by
        show BitVec.ofBool (BitVec.slt (BitVec.ofNat 32 x.val) 0#32) = _
        rw [show BitVec.slt (BitVec.ofNat 32 x.val) 0#32 = false from Bool.eq_false_iff.mpr fun h => by
          have := BitVec.slt_iff_toInt_lt.mp h; rw [hi] at this; simp at this; omega]; rfl
      rw [h1, h2]
      exact BitVec.zero_and
  rw [hc]
  rfl

/-- The five extra columns of the product add the center's square, and +∞ unless the center is of the sample's task. -/
theorem extra_columns (w : BitVec 32) (hw : w.toNat < 4) (x : Fin 2048) (sq : EReal) :
    ∑ q : Fin 5,
      Scalar.select (IntOp.cmpi .eq (BitVec.ofNat 32 q.val) 0#32) (1 : EReal)
          (Scalar.select (IntOp.cmpi .eq (IntOp.subi (BitVec.ofNat 32 q.val) 1#32) w) 0 1) *
        Scalar.select (IntOp.cmpi .eq (BitVec.ofNat 32 q.val) 0#32) sq
          (Scalar.select (IntOp.cmpi .eq (BitVec.ofNat 32 (x.val / 512)) (IntOp.subi (BitVec.ofNat 32 q.val) 1#32)) (Named.named (F := Ideal) κ "mask" (φ := .f32) 1315859240#32) 0)
      = sq + if x.val / 512 = w.toNat then 0 else ⊤ := by
  have hm : Named.named (F := Ideal) κ "mask" (φ := .f32) 1315859240#32 = ⊤ := IdealRules.named_const.ideal_named_scalar _ _ _ _ rfl
  obtain ⟨t, ht, rfl⟩ : ∃ t, t < 4 ∧ w = BitVec.ofNat 32 t := ⟨w.toNat, hw, by simp⟩
  have hg : x.val / 512 < 4 := by have := x.isLt; omega
  generalize x.val / 512 = g at hg ⊢
  rw [hm, Fin.sum_univ_five]
  interval_cases t <;> interval_cases g <;> simp [Scalar.select, IntOp.cmpi, IntOp.subi]

/-- A row of a step's block: the sample plus a tenth of the one nearest center of its task. -/
theorem pay_at (d0 : IVec S256x1 32) (d1 : FVec Ideal S256x128 .f32) (C : FVec Ideal S2048x128 .f32) (X : Near.Samples) (hX : Near.Finite X) (hC : Near.Finite C)
    (i : Fin 1024) (r : Fin 256) (h1 : ∀ k, d1 (ix2 r k) = X (ix2 i k)) (hw : (d0 (ix2 r 0)).toNat < 4) (b : Fin 2048)
    (hb : Near.Best X C (d0 (ix2 r 0)).toNat i b) (k : Fin 128) :
    pay (F := Ideal) d0 d1 C (ix2 r k) = X (ix2 i k) + Ideal.ofBits .f32 0x3DCCCCCD#32 * C (ix2 b k) := by
  dsimp only [pay, k0_pay9, k0_pay1, k0_pay2, k0_pay3, k0_pay4, k0_pay5, k0_pay6, k0_pay7, k0_pay8]
  pointwise
  simp only [group_word, h1]
  simp only [extra_columns _ hw, Near.minus_two_word, Near.top_word]
  simp only [Near.masked_sum X C hX hC]
  simp only [hb.attained hX hC]
  have hone : ∀ x : Fin 2048, FloatOps.sitofp (F := Ideal) .f32 (BitVec.setWidth 32 (BitVec.ofBool (decide (x = b)))) = if x = b then 1 else 0 := by
    intro x
    show (((BitVec.setWidth 32 (BitVec.ofBool (decide (x = b)))).toInt : ℝ) : EReal) = _
    by_cases h : x = b <;> simp [h]
  simp only [hone, ite_mul, one_mul, zero_mul, Finset.sum_ite_eq', Finset.mem_univ, if_true]

variable (m : (ℓ : Loc nD τ sig) → Buf (Elt Ideal) ℓ)

/-- The samples, the centers and the task numbers, of the arguments. -/
abbrev samplesOf (c : Dev nD) : Near.Samples := m (c, Proc.devRef .tc main_arg0)
abbrev centersOf (c : Dev nD) : Near.Centers := shapeCast S2048x128 (m (c, Proc.devRef .tc main_arg2)) shapeCasts_S4x512x128_S2048x128
abbrev tasksOf (c : Dev nD) : IVec S1024 32 := m (c, Proc.devRef .tc main_arg3)

/-- A stored row: its sample plus a tenth of the one nearest center of its task. -/
theorem rows_at (c : Dev nD) (hX : Near.Finite (samplesOf m c)) (hC : Near.Finite (centersOf m c)) (i : Fin 1024) (hw : (tasksOf m c (ix1 i)).toNat < 4)
    (b : Fin 2048) (hb : Near.Best (samplesOf m c) (centersOf m c) (tasksOf m c (ix1 i)).toNat i b) (k : Fin 128) :
    rowsW m c (ix2 i k) = samplesOf m c (ix2 i k) + Ideal.ofBits .f32 0x3DCCCCCD#32 * centersOf m c (ix2 b k) := by
  obtain ⟨r, hr, hrv⟩ : ∃ r : Fin 256, inBlk (ix2 i k : S1024x128.Idx) = (ix2 r k : S256x128.Idx) ∧ r.val = i.val % 256 :=
    ⟨⟨i.val % 256, Nat.mod_lt _ (by decide)⟩, by funext a; refine Fin.ext ?_; fin_cases a <;> rfl, rfl⟩
  obtain ⟨t, ht, htv⟩ : ∃ t, stepOf m (ix2 i k : S1024x128.Idx) = t ∧ t.val = i.val / 256 := ⟨_, rfl, rfl⟩
  have hd : i.val = t.val * 256 + r.val := by omega
  unfold rowsW
  rw [hr, ht]
  have h0 : held m c 0 t (ix2 r 0 : S256x1.Idx) = tasksOf m c (ix1 i) := by
    refine (held_0 m c t (ix2 r 0) (ix2 i 0) hd rfl).trans ?_
    rw [V₀_v1]
    pointwise
  have h1 : ∀ k' : Fin 128, held m c 1 t (ix2 r k' : S256x128.Idx) = samplesOf m c (ix2 i k') := fun k' =>
    (held_1 m c t (ix2 r k') (ix2 i k') hd rfl).trans (congrFun (V₀_arg m c main_arg0 (by decide)) _)
  have h2 : held m c 2 t = centersOf m c := funext fun y => (held_2 m c _ _ y).trans (congrFun (V₀_v0 m c) y)
  rw [h2]
  exact pay_at _ _ _ (samplesOf m c) hX hC i r h1 (by rw [h0]; exact hw) b (by rw [h0]; exact hb) k

end Cert.KernelIdeal.Rows

end
-- ==== Proof.Value.lean ====
/-
  The reference's result, as its operations compose it, and the run that ends with it.
-/
module

public import proofs.«01_k».proof.Proof.Ref

@[expose] public section

noncomputable section

namespace Cert.ReferenceIdeal.Plain

open Cert.ReferenceIdeal Cert.ReferenceIdeal.Gen
open Idealize.ShloMosaic Idealize.ShloMosaic.TcCoe Idealize.SL.Sem

/-- Every sample's distance from every centre, less the sample's own square. -/
def distances (X : FVec Ideal S1024x128 .f32) (C : FVec Ideal S2048x128 .f32) : FVec Ideal S1024x2048 .f32 :=
  subf (broadcastInDim S1024x2048 ![0, 1] bcast_S1x2048_S1024x2048_0_1 (broadcastInDim S1x2048 ![1] bcast_S2048_S1x2048_1
      (Host.reduceAdd (mulf C C) (constant S_ .f32 0x00000000#32) reducesTo_S2048x128_S2048_d1 h_S_)))
    (mulf (broadcastInDim S1024x2048 ![] bcast_S_S1024x2048 (constant S_ .f32 0x40000000#32))
      (Host.dotGeneral dot_S1024x128_S128x2048_S1024x2048_1_0_0_1_n_n none X (transpose S128x2048 [1, 0] C transposes_S2048x128_S128x2048_1_0)))

/-- The centres of each sample's task, by number. -/
def columns (task : IVec S1024 32) : IVec S1024x512 32 :=
  addi (broadcastInDim S1024x512 ![0, 1] bcast_S1024x1_S1024x512_0_1
      (muli (broadcastInDim S1024x1 ![0] bcast_S1024_S1024x1_0 task) (broadcastInDim S1024x1 ![] bcast_S_S1024x1 (constantI S_ 32 512#32))))
    (broadcastInDim S1024x512 ![0, 1] bcast_S1x512_S1024x512_0_1 (broadcastInDim S1x512 ![1] bcast_S512_S1x512_1 (iotaInDim S512 32 0)))

/-- Column numbers, a negative one counted from the end. -/
def wrapColumns (c : IVec S1024x512 32) : IVec S1024x512x1 32 :=
  shapeCast S1024x512x1 (select (cmpi .slt c (broadcastInDim S1024x512 ![] bcast_S_S1024x512 (constantI S_ 32 0#32)))
    (addi c (broadcastInDim S1024x512 ![] bcast_S_S1024x512 (constantI S_ 32 2048#32))) c) shapeCasts_S1024x512_S1024x512x1

/-- Whether a column number is inside the row. -/
def columnsInside (c : IVec S1024x512x1 32) : IVec S1024x512 1 :=
  Host.reduce IntOp.andi (andi (cmpi .sge c (broadcastInDim S1024x512x1 ![] bcast_S_S1024x512x1 (constantI S_ 32 0#32)))
      (cmpi .sle c (broadcastInDim S1024x512x1 ![0, 1, 2] bcast_S1x1x1_S1024x512x1_0_1_2 (broadcastInDim S1x1x1 ![2] bcast_S1_S1x1x1_2 (constantI S1 32 2047#32)))))
    (constantI S_ 1 1#1) reducesTo_S1024x512x1_S1024x512_d2 h_S_

/-- Each row's entries at the given columns. -/
def takeAlong (D : FVec Ideal S1024x2048 .f32) (c : IVec S1024x512 32) : FVec Ideal S1024x512 .f32 :=
  select (columnsInside (wrapColumns c)) (Host.gather gather_S1024x2048_S1024x512x1_S1024x512_n_1_0_0_1_2_11 D (wrapColumns c))
    (broadcastInDim S1024x512 ![] bcast_S_S1024x512 (constant S_ .f32 0x7FC00000#32))

/-- Where each row is least. -/
def leastAt (D : FVec Ideal S1024x512 .f32) : IVec S1024 32 :=
  fun j => (Host.argReduce (F := Ideal) reducer_argmin_f32_i32 D (iotaInDim S1024x512 32 1) (constant S_ .f32 0x7F800000#32) (constantI S_ 32 0#32) reducesTo_S1024x512_S1024_d1 h_S_ j).2

/-- The number of each sample's nearest centre. -/
def nearest (X : FVec Ideal S1024x128 .f32) (C : FVec Ideal S2048x128 .f32) (task : IVec S1024 32) : IVec S1024 32 :=
  addi (muli task (broadcastInDim S1024 ![] bcast_S_S1024 (constantI S_ 32 512#32))) (leastAt (takeAlong (distances X C) (columns task)))

/-- Row numbers, a negative one counted from the end. -/
def wrapRows (n : IVec S1024 32) : IVec S1024x1 32 :=
  broadcastInDim S1024x1 ![0] bcast_S1024_S1024x1_0 (select (cmpi .slt n (broadcastInDim S1024 ![] bcast_S_S1024 (constantI S_ 32 0#32)))
    (addi n (broadcastInDim S1024 ![] bcast_S_S1024 (constantI S_ 32 2048#32))) n)

/-- Whether a row number is inside the table. -/
def rowsInside (n : IVec S1024x1 32) : IVec S1024 1 :=
  Host.reduce IntOp.andi (andi (cmpi .sge n (broadcastInDim S1024x1 ![] bcast_S_S1024x1 (constantI S_ 32 0#32)))
      (cmpi .sle n (broadcastInDim S1024x1 ![0, 1] bcast_S1x1_S1024x1_0_1 (broadcastInDim S1x1 ![1] bcast_S1_S1x1_1 (constantI S1 32 2047#32)))))
    (constantI S_ 1 1#1) reducesTo_S1024x1_S1024_d1 h_S_

/-- The centres with the given numbers. -/
def takeRows (C : FVec Ideal S2048x128 .f32) (n : IVec S1024 32) : FVec Ideal S1024x128 .f32 :=
  select (broadcastInDim S1024x128 ![0] bcast_S1024_S1024x128_0 (rowsInside (wrapRows n)))
    (Host.gather gather_S2048x128_S1024x1_S1024x128_1_0_n_n_0_1_1128 C (wrapRows n))
    (broadcastInDim S1024x128 ![] bcast_S_S1024x128 (constant S_ .f32 0x7FC00000#32))

/-- The rows to write: each sample and a tenth of its nearest centre. -/
def blended (X : FVec Ideal S1024x128 .f32) (C : FVec Ideal S2048x128 .f32) (task : IVec S1024 32) : FVec Ideal S1024x128 .f32 :=
  addf X (mulf (broadcastInDim S1024x128 ![] bcast_S_S1024x128 (constant S_ .f32 0x3DCCCCCD#32)) (takeRows C (nearest X C task)))

/-- Where to write them: each sample's task and slot, a negative one counted from the end. -/
def places (task slot : IVec S1024 32) : IVec S1024x2 32 :=
  concatenate S1024x2 1
    [⟨S1024x1, broadcastInDim S1024x1 ![0] bcast_S1024_S1024x1_0 (select (cmpi .slt task (broadcastInDim S1024 ![] bcast_S_S1024 (constantI S_ 32 0#32)))
      (addi task (broadcastInDim S1024 ![] bcast_S_S1024 (constantI S_ 32 4#32))) task)⟩,
     ⟨S1024x1, broadcastInDim S1024x1 ![0] bcast_S1024_S1024x1_0 (select (cmpi .slt slot (broadcastInDim S1024 ![] bcast_S_S1024 (constantI S_ 32 0#32)))
      (addi slot (broadcastInDim S1024 ![] bcast_S_S1024 (constantI S_ 32 65536#32))) slot)⟩]
    concatenates_S1024x1_S1024x1_S1024x2_d1

/-- The bank after the rows are written. -/
def written (X : FVec Ideal S1024x128 .f32) (B : FVec Ideal S4x65536x128 .f32) (P : FVec Ideal S4x512x128 .f32) (task slot : IVec S1024 32) :
    FVec Ideal S4x65536x128 .f32 :=
  Host.scatter scatter_S4x65536x128_S1024x2_S1024x128_1_01_01_1 (fun _ b => b) B (places task slot)
    (blended X (shapeCast S2048x128 P shapeCasts_S4x512x128_S2048x128) task)

/-- The reference runs, ends with `written` of its arguments, and leaves them as they were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v40)
          = written (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) := by
  hlo_run
  simp only [StableHlo.TRef.ofBuf_toBuf]
  rfl

end Cert.ReferenceIdeal.Plain

end
-- ==== Proof.Least.lean ====
/-
  The reference's operations read at an index: the distances, the columns taken from them, where a row is least, and the
  centres taken by number.
-/
module

public import proofs.«01_k».proof.Proof.Value
public import proofs.«01_k».proof.Proof.Math
public import Idealize.ShloMosaic.Lib.Pointwise
public import Idealize.ShloMosaic.Lib.Routing.Ops
public import Idealize.ShloMosaic.PureOps.Ideal.Laws

@[expose] public section

noncomputable section

namespace Cert.ReferenceIdeal.Plain

open Cert.ReferenceIdeal Cert.ReferenceIdeal.Gen Cert.Near
open Idealize.ShloMosaic

/-- A distance, read. -/
theorem distances_at (X : Samples) (C : Centers) (i : Fin 1024) (j : Fin 2048) : distances X C (ix2 i j) = dist X C i j := by
  unfold distances
  pointwise
  rw [two_word]
  rfl

/-- A word that holds a small natural is not negative, so it is not counted from the end. -/
theorem wrap_word (w k : BitVec 32) (h : w.toNat < 2 ^ 31) : Scalar.select (IntOp.cmpi .slt w 0#32) (IntOp.addi w k) w = w := by
  have hs : w.slt 0#32 = false := by
    rw [Bool.eq_false_iff, Ne, BitVec.slt_iff_toInt_lt, BitVec.toInt_eq_toNat_of_lt (by omega), show (0#32 : BitVec 32).toInt = 0 from rfl]
    omega
  simp only [IntOp.cmpi, hs]
  rfl

/-- A word that holds a natural below 2048 is inside. -/
theorem inside_word (w : BitVec 32) (h : w.toNat < 2048) : IntOp.andi (IntOp.cmpi .sge w 0#32) (IntOp.cmpi .sle w 2047#32) = 1#1 := by
  have h0 : (0#32 : BitVec 32).sle w = true := by
    rw [BitVec.sle_iff_toInt_le, show (0#32 : BitVec 32).toInt = 0 from rfl, BitVec.toInt_eq_toNat_of_lt (by omega)]
    omega
  have h1 : w.sle 2047#32 = true := by
    rw [BitVec.sle_iff_toInt_le, BitVec.toInt_eq_toNat_of_lt (by omega), show (2047#32 : BitVec 32).toInt = 2047 from rfl]
    omega
  simp only [IntOp.cmpi, h0, h1]
  rfl

/-- A column number, read. -/
theorem columns_at (task : IVec S1024 32) (i : Fin 1024) (j : Fin 512) :
    columns task (ix2 i j) = task (ix1 i) * 512#32 + BitVec.ofNat 32 j.val := by
  unfold columns
  pointwise
  rfl

/-- A column number inside the row is left as it is. -/
theorem wrapColumns_at (c : IVec S1024x512 32) (i : Fin 1024) (j : Fin 512) (h : (c (ix2 i j)).toNat < 2048) :
    wrapColumns c (ix3 i j (0 : Fin 1)) = c (ix2 i j) := by
  unfold wrapColumns
  pointwise
  exact wrap_word _ _ (by omega)

/-- What is inside the row is told so. -/
theorem columnsInside_at (c : IVec S1024x512x1 32) (i : Fin 1024) (j : Fin 512) (h : (c (ix3 i j (0 : Fin 1))).toNat < 2048) :
    columnsInside c (ix2 i j) = 1#1 := by
  unfold columnsInside
  pointwise
  rw [Finset.univ_unique, Finset.fold_singleton, show (default : Fin 1) = 0 from rfl, inside_word _ h]
  rfl

/-- An entry gathered along its row. -/
theorem gather_at (D : FVec Ideal S1024x2048 .f32) (c : IVec S1024x512x1 32) (i : Fin 1024) (j : Fin 512) (n : Fin 2048)
    (h : (c (ix3 i j (0 : Fin 1))).toNat = n.val) :
    Host.gather gather_S1024x2048_S1024x512x1_S1024x512_n_1_0_0_1_2_11 D c (ix2 i j) = D (ix2 i n) := by
  unfold Host.gather
  refine congrArg D (funext fun a => Fin.ext ?_)
  have hn := n.isLt
  have hi : (c (ix3 i j (0 : Fin 1))).toInt = n.val := by rw [BitVec.toInt_eq_toNat_of_lt (by omega), h]
  match a with
  | ⟨0, _⟩ =>
    generalize hd : gather_S1024x2048_S1024x512x1_S1024x512_n_1_0_0_1_2_11 = d
    show d.start (ix2 i j) c 0 + d.batchCoord (ix2 i j) 0 + d.offCoord (ix2 i j) 0 = i.val
    rw [d.start_batching _ _ _ (by rw [← hd]; decide), d.offCoord_eq_zero _ _ (by rw [← hd]; decide), Nat.zero_add, Nat.add_zero]
    unfold GatherDims.batchCoord
    rw [dif_pos (by rw [← hd]; decide)]
    subst hd
    rfl
  | ⟨1, _⟩ =>
    generalize hd : gather_S1024x2048_S1024x512x1_S1024x512_n_1_0_0_1_2_11 = d
    have hm : (1 : Fin 2) ∈ d.startIndexMap := by rw [← hd]; decide
    show d.start (ix2 i j) c 1 + d.batchCoord (ix2 i j) 1 + d.offCoord (ix2 i j) 1 = n.val
    rw [d.batchCoord_eq_zero _ _ (by rw [← hd]; decide), d.offCoord_eq_zero _ _ (by rw [← hd]; decide)]
    unfold GatherDims.start
    rw [dif_pos hm]
    have hsi : d.siIdx (ix2 i j) ⟨d.startIndexMap.idxOf 1, List.idxOf_lt_length_iff.2 hm⟩ = ix3 i j (0 : Fin 1) := by
      subst hd
      funext x
      match x with
      | ⟨0, _⟩ => rfl
      | ⟨1, _⟩ => rfl
      | ⟨2, _⟩ => rfl
    have hsl : d.sliceSizes 1 = 1 := by rw [← hd]; rfl
    rw [hsi, hsl, hi]
    show min ((n.val : Int)).toNat (2048 - 1) = n.val
    omega

/-- An entry taken along its row. -/
theorem takeAlong_at (D : FVec Ideal S1024x2048 .f32) (c : IVec S1024x512 32) (i : Fin 1024) (j : Fin 512) (n : Fin 2048)
    (h : (c (ix2 i j)).toNat = n.val) : takeAlong D c (ix2 i j) = D (ix2 i n) := by
  have hn := n.isLt
  have hw := wrapColumns_at c i j (by omega)
  unfold takeAlong
  show Scalar.select (columnsInside (wrapColumns c) (ix2 i j)) (Host.gather _ D (wrapColumns c) (ix2 i j)) _ = _
  rw [columnsInside_at _ i j (by rw [hw]; omega), gather_at D _ i j n (by rw [hw]; exact h)]
  rfl

/-- The centre with a given number. -/
theorem takeRows_at (C : Centers) (n : IVec S1024 32) (i : Fin 1024) (k : Fin 128) (b : Fin 2048) (h : n (ix1 i) = BitVec.ofNat 32 b.val) :
    takeRows C n (ix2 i k) = C (ix2 b k) := by
  have hb := b.isLt
  have hn : (n (ix1 i)).toNat = b.val := by rw [h, BitVec.toNat_ofNat]; omega
  have hw : wrapRows n (ix2 i (0 : Fin 1)) = n (ix1 i) := by
    unfold wrapRows
    pointwise
    exact wrap_word _ _ (by omega)
  have hin : rowsInside (wrapRows n) (ix1 i) = 1#1 := by
    generalize wrapRows n = e at hw ⊢
    unfold rowsInside
    pointwise
    rw [Finset.univ_unique, Finset.fold_singleton, show (default : Fin 1) = 0 from rfl, hw, inside_word _ (by omega)]
    rfl
  unfold takeRows
  show Scalar.select (broadcastInDim S1024x128 ![0] bcast_S1024_S1024x128_0 (rowsInside (wrapRows n)) (ix2 i k)) (Host.gather _ C (wrapRows n) (ix2 i k)) _ = _
  have hg : Host.gather gather_S2048x128_S1024x1_S1024x128_1_0_n_n_0_1_1128 C (wrapRows n) (ix2 i k) = C (ix2 b k) :=
    Routing.gather_row gather_S2048x128_S1024x1_S1024x128_1_0_n_n_0_1_1128 rfl rfl rfl rfl rfl C (wrapRows n) i k b (by rw [← h]; exact hw) (by norm_num)
  rw [hg]
  generalize rowsInside (wrapRows n) = e at hin ⊢
  pointwise
  rw [hin]
  rfl

/-- The two words of a sample's place. -/
theorem places_at (task slot : IVec S1024 32) (i : Fin 1024) (ht : (task (ix1 i)).toNat < 2 ^ 31) (hs : (slot (ix1 i)).toNat < 2 ^ 31) :
    places task slot (ix2 i (0 : Fin 2)) = task (ix1 i) ∧ places task slot (ix2 i (1 : Fin 2)) = slot (ix1 i) := by
  unfold places
  constructor
  · pointwise
    exact wrap_word _ _ ht
  · pointwise
    exact wrap_word _ _ hs

/-- The argmin's step keeps the lesser of two pairs. -/
theorem step_left (a b : EReal × BitVec 32) (h : a.1 < b.1) : reducer_argmin_f32_i32 (F := Ideal) a b = a := by
  have hne : a.1 ≠ b.1 := h.ne
  simp [reducer_argmin_f32_i32, Ideal.cmpf_def, Ideal.cmp, h, hne, IntOp.ori, IntOp.andi, IntOp.cmpi, Scalar.select]
theorem step_right (a b : EReal × BitVec 32) (h : b.1 < a.1) : reducer_argmin_f32_i32 (F := Ideal) a b = b := by
  have hne : a.1 ≠ b.1 := h.ne'
  have hlt : ¬ a.1 < b.1 := h.not_gt
  simp [reducer_argmin_f32_i32, Ideal.cmpf_def, Ideal.cmp, hlt, hne, IntOp.ori, IntOp.andi, IntOp.cmpi, Scalar.select]
theorem step_same (a : EReal × BitVec 32) : reducer_argmin_f32_i32 (F := Ideal) a a = a := by
  simp [reducer_argmin_f32_i32, Ideal.cmpf_def, Ideal.cmp, IntOp.ori, IntOp.andi, IntOp.cmpi, Scalar.select]

/-- Of two values above `v` the step keeps one above `v`. -/
theorem step_above (v : EReal) (a b : EReal × BitVec 32) (ha : v < a.1) (hb : v < b.1) : v < (reducer_argmin_f32_i32 (F := Ideal) a b).1 := by
  show v < Scalar.select _ a.1 b.1
  unfold Scalar.select
  split <;> assumption

/-- A fold of the step over pairs of which one is below all the others ends at that one. -/
theorem fold_least (p : EReal × BitVec 32) (l : List (EReal × BitVec 32)) (hl : ∀ q ∈ l, q = p ∨ p.1 < q.1) (acc : EReal × BitVec 32)
    (hacc : acc = p ∨ p.1 < acc.1) (hp : acc = p ∨ p ∈ l) : l.foldl (reducer_argmin_f32_i32 (F := Ideal)) acc = p := by
  induction l generalizing acc with
  | nil => exact hp.resolve_right (List.not_mem_nil)
  | cons q l ih =>
    rw [List.foldl_cons]
    have hq := hl q (List.mem_cons_self)
    have hl' : ∀ q ∈ l, q = p ∨ p.1 < q.1 := fun q hq => hl q (List.mem_cons_of_mem _ hq)
    by_cases ha : acc = p
    · subst ha
      have : reducer_argmin_f32_i32 (F := Ideal) acc q = acc := by
        rcases hq with rfl | hq
        · exact step_same _
        · exact step_left _ _ hq
      rw [this]
      exact ih hl' acc (Or.inl rfl) (Or.inl rfl)
    · have ha' := hacc.resolve_left ha
      rcases hq with rfl | hq
      · rw [step_right _ _ ha']
        exact ih hl' q (Or.inl rfl) (Or.inl rfl)
      · refine ih hl' _ (Or.inr (step_above _ _ _ ha' hq)) (Or.inr ?_)
        rcases List.mem_cons.mp (hp.resolve_left ha) with h | h
        · rw [h] at hq; exact absurd hq (lt_irrefl _)
        · exact h

/-- Which entries a row's argmin folds over: the row's. -/
theorem drop_row (i : Fin 1024) (i' : Fin 1024) (j : Fin 512) : reducesTo_S1024x512_S1024_d1.drop (ix2 i' j) = ix1 i ↔ i' = i := by
  constructor
  · intro h
    have e := congrArg Fin.val (congrFun h 0)
    exact Fin.ext ((Shape.ReducesTo.drop_apply_val_of_eq reducesTo_S1024x512_S1024_d1 (ix2 i' j) 0 (0 : Fin 2)).symm.trans e)
  · rintro rfl
    funext a
    refine Fin.ext ?_
    match a with
    | ⟨0, _⟩ => exact Shape.ReducesTo.drop_apply_val_of_eq reducesTo_S1024x512_S1024_d1 (ix2 i' j) 0 (0 : Fin 2)

/-- Where a row has one entry below all its others, that is where it is least. -/
theorem leastAt_at (D : FVec Ideal S1024x512 .f32) (i : Fin 1024) (b : Fin 512) (htop : D (ix2 i b) < ⊤)
    (hb : ∀ j, j ≠ b → D (ix2 i b) < D (ix2 i j)) : leastAt D (ix1 i) = BitVec.ofNat 32 b.val := by
  unfold leastAt
  rw [Ideal.argReduce_eq_reduce2, Host.reduce2_eq_foldl_fiber]
  rw [fold_least (D (ix2 i b), BitVec.ofNat 32 b.val)]
  · intro q hq
    obtain ⟨n, hn, rfl⟩ := List.mem_map.mp hq
    have hd := of_decide_eq_true (List.mem_filter.mp hn).2
    generalize S1024x512.rowMajor.symm n = x at hd
    obtain ⟨i', j, rfl⟩ : ∃ (i' : Fin 1024) (j : Fin 512), x = ix2 i' j := ⟨x 0, x 1, (ix2_eta x).symm⟩
    rw [drop_row] at hd
    subst hd
    by_cases hj : j = b
    · subst hj; exact Or.inl rfl
    · exact Or.inr (hb j hj)
  · refine Or.inr ?_
    show D (ix2 i b) < Ideal.ofBits .f32 0x7F800000#32
    rw [top_word]; exact htop
  · refine Or.inr (List.mem_map.mpr ⟨S1024x512.rowMajor (ix2 i b), List.mem_filter.mpr ⟨List.mem_finRange _, decide_eq_true ?_⟩, ?_⟩)
    · rw [Equiv.symm_apply_apply]; exact (drop_row i i b).mpr rfl
    · rw [Equiv.symm_apply_apply]; rfl

/-- The nearest centre's number. -/
theorem nearest_at (X : Samples) (C : Centers) (hX : Finite X) (hC : Finite C) (task : IVec S1024 32) (i : Fin 1024) (hw : (task (ix1 i)).toNat < 4)
    (b : Fin 2048) (hb : Best X C (task (ix1 i)).toNat i b) : nearest X C task (ix1 i) = BitVec.ofNat 32 b.val := by
  have hD : ∀ (j : Fin 512) (n : Fin 2048), n.val = (task (ix1 i)).toNat * 512 + j.val → takeAlong (distances X C) (columns task) (ix2 i j) = dist X C i n := by
    intro j n hn
    rw [← distances_at]
    refine takeAlong_at _ _ i j n ?_
    rw [columns_at, BitVec.toNat_add, BitVec.toNat_mul, BitVec.toNat_ofNat, BitVec.toNat_ofNat]
    omega
  have hown := hb.own
  have hbl := b.isLt
  have hbD := hD ⟨b.val % 512, by omega⟩ b (by show b.val = _ * 512 + b.val % 512; omega)
  have hmin : leastAt (takeAlong (distances X C) (columns task)) (ix1 i) = BitVec.ofNat 32 (b.val % 512) := by
    refine leastAt_at _ i ⟨b.val % 512, by omega⟩ ?_ ?_
    · obtain ⟨r, hr⟩ := dist_real X C hX hC i b
      rw [hbD, hr]; exact EReal.coe_lt_top r
    · intro j hj
      have hjl := j.isLt
      rw [hbD, hD j ⟨(task (ix1 i)).toNat * 512 + j.val, by omega⟩ rfl]
      refine hb.lt _ ?_ ?_
      · show ((task (ix1 i)).toNat * 512 + j.val) / 512 = _; omega
      · intro e
        have e' := congrArg Fin.val e
        refine hj (Fin.ext ?_)
        show j.val = b.val % 512
        simp only at e'
        omega
  unfold nearest
  show IntOp.addi (IntOp.muli (task (ix1 i)) _) (leastAt _ (ix1 i)) = _
  rw [hmin]
  refine BitVec.eq_of_toNat_eq ?_
  show (task (ix1 i) * 512#32 + BitVec.ofNat 32 (b.val % 512)).toNat = _
  rw [BitVec.toNat_add, BitVec.toNat_mul, BitVec.toNat_ofNat, BitVec.toNat_ofNat, BitVec.toNat_ofNat]
  omega

/-- A row to write, read: the sample's entry and a tenth of its nearest centre's. -/
theorem blended_at (X : Samples) (C : Centers) (hX : Finite X) (hC : Finite C) (task : IVec S1024 32) (i : Fin 1024) (hw : (task (ix1 i)).toNat < 4)
    (b : Fin 2048) (hb : Best X C (task (ix1 i)).toNat i b) (k : Fin 128) :
    blended X C task (ix2 i k) = X (ix2 i k) + Ideal.ofBits .f32 0x3DCCCCCD#32 * C (ix2 b k) := by
  have h := takeRows_at C (nearest X C task) i k b (nearest_at X C hX hC task i hw b hb)
  unfold blended
  generalize takeRows C (nearest X C task) = T at h
  pointwise
  rw [h]

end Cert.ReferenceIdeal.Plain

end
-- ==== Proof.Scatter.lean ====
/-
  The reference's scatter read at an element: a sample's blended row at its task and slot, the bank's own element elsewhere.
-/
module

public import proofs.«01_k».proof.Proof.Least
public import proofs.«01_k».proof.Proof.Slots
public import Idealize.ShloMosaic.Lib.Routing.OpsPair
public import Idealize.ShloMosaic.Lib.Routing.OpsSet

@[expose] public section

noncomputable section

namespace Cert.ReferenceIdeal.Plain

open Cert.ReferenceIdeal Cert.ReferenceIdeal.Gen Cert.Near
open Idealize.ShloMosaic

/-- Where an update lands: at the task and the slot that its sample's two words tell. -/
theorem lands (idx : IVec S1024x2 32) (i : Fin 1024) (k : Fin 128) (t : Fin 4) (s : Fin 65536) (k' : Fin 128) :
    scatter_S4x65536x128_S1024x2_S1024x128_1_01_01_1.resultIdx? (ix2 i k) idx = some (ix3 t s k')
      ↔ (idx (ix2 i (0 : Fin 2))).toInt = t.val ∧ (idx (ix2 i (1 : Fin 2))).toInt = s.val ∧ k = k' := by
  rw [Routing.resultIdx?_eq_some]
  generalize hd : scatter_S4x65536x128_S1024x2_S1024x128_1_01_01_1 = d
  have h0 : (0 : Fin 3) ∈ d.scatterDimsToOperandDims := by rw [← hd]; decide
  have h1 : (1 : Fin 3) ∈ d.scatterDimsToOperandDims := by rw [← hd]; decide
  have h2 : (2 : Fin 3) ∉ d.scatterDimsToOperandDims := by rw [← hd]; decide
  have w0 : (0 : Fin 3) ∉ d.sKept := by rw [← hd]; decide
  have w1 : (1 : Fin 3) ∉ d.sKept := by rw [← hd]; decide
  have w2 : (2 : Fin 3) ∈ d.sKept := by rw [← hd]; decide
  have e0 : d.start (ix2 i k) idx 0 + (d.window (ix2 i k) 0 : Int) = (idx (ix2 i (0 : Fin 2))).toInt := by
    unfold ScatterDims.start ScatterDims.window
    rw [dif_pos h0, dif_neg w0]
    have : d.siIdx (ix2 i k) ⟨d.scatterDimsToOperandDims.idxOf 0, List.idxOf_lt_length_iff.2 h0⟩ = ix2 i (0 : Fin 2) := by
      subst hd
      funext x
      match x with
      | ⟨0, _⟩ => rfl
      | ⟨1, _⟩ => rfl
    rw [this]
    exact add_zero _
  have e1 : d.start (ix2 i k) idx 1 + (d.window (ix2 i k) 1 : Int) = (idx (ix2 i (1 : Fin 2))).toInt := by
    unfold ScatterDims.start ScatterDims.window
    rw [dif_pos h1, dif_neg w1]
    have : d.siIdx (ix2 i k) ⟨d.scatterDimsToOperandDims.idxOf 1, List.idxOf_lt_length_iff.2 h1⟩ = ix2 i (1 : Fin 2) := by
      subst hd
      funext x
      match x with
      | ⟨0, _⟩ => rfl
      | ⟨1, _⟩ => rfl
    rw [this]
    exact add_zero _
  have e2 : d.start (ix2 i k) idx 2 + (d.window (ix2 i k) 2 : Int) = (k.val : Int) := by
    unfold ScatterDims.start ScatterDims.window
    rw [dif_neg h2, dif_pos w2]
    subst hd
    exact zero_add _
  constructor
  · intro h
    exact ⟨e0.symm.trans (h 0), e1.symm.trans (h 1), Fin.ext (Int.ofNat.inj (e2.symm.trans (h 2)))⟩
  · rintro ⟨ht, hs, rfl⟩ a
    match a with
    | ⟨0, _⟩ => exact e0.trans ht
    | ⟨1, _⟩ => exact e1.trans hs
    | ⟨2, _⟩ => exact e2

variable (X : Samples) (B : FVec Ideal S4x65536x128 .f32) (P : FVec Ideal S4x512x128 .f32) (task slot : IVec S1024 32) (hg : Slots.Good task slot)

include hg in
/-- Where a sample's row lands, as numbers. -/
theorem lands_good (i : Fin 1024) (k : Fin 128) (t : Fin 4) (s : Fin 65536) (k' : Fin 128) :
    scatter_S4x65536x128_S1024x2_S1024x128_1_01_01_1.resultIdx? (ix2 i k) (places task slot) = some (ix3 t s k')
      ↔ (task (ix1 i)).toNat = t.val ∧ (slot (ix1 i)).toNat = s.val ∧ k = k' := by
  have ht := hg.task (ix1 i)
  have hs := hg.slot (ix1 i)
  obtain ⟨p0, p1⟩ := places_at task slot i (by omega) (by omega)
  rw [lands, p0, p1, BitVec.toInt_eq_toNat_of_lt (by omega), BitVec.toInt_eq_toNat_of_lt (by omega)]
  simp only [Int.natCast_inj]

include hg in
/-- At a sample's task and slot: the sample's blended row. -/
theorem written_hit (i : Fin 1024) (t : Fin 4) (s : Fin 65536) (k : Fin 128) (ht : (task (ix1 i)).toNat = t.val) (hs : (slot (ix1 i)).toNat = s.val) :
    written X B P task slot (ix3 t s k) = blended X (shapeCast S2048x128 P shapeCasts_S4x512x128_S2048x128) task (ix2 i k) := by
  unfold written
  generalize blended X (shapeCast S2048x128 P shapeCasts_S4x512x128_S2048x128) task = W
  refine Routing.scatter_set_hit _ B _ W (ix3 t s k) (W (ix2 i k)) (fun u hu => ?_) (ix2 i k) ((lands_good task slot hg i k t s k).mpr ⟨ht, hs, rfl⟩)
  obtain ⟨i', k', rfl⟩ : ∃ (i' : Fin 1024) (k' : Fin 128), u = ix2 i' k' := ⟨u 0, u 1, (ix2_eta u).symm⟩
  obtain ⟨ht', hs', rfl⟩ := (lands_good task slot hg i' k' t s k).mp hu
  have : i' = i := by
    by_contra hne
    refine hg.apart (ix1 i') (ix1 i) (fun e => hne (congrFun e 0)) ?_
    rw [ht, hs, ht', hs']
  rw [this]

include hg in
/-- Where no sample's row lands: the bank's own element. -/
theorem written_miss (t : Fin 4) (s : Fin 65536) (k : Fin 128) (h : ∀ i : Fin 1024, ¬ ((task (ix1 i)).toNat = t.val ∧ (slot (ix1 i)).toNat = s.val)) :
    written X B P task slot (ix3 t s k) = B (ix3 t s k) := by
  unfold written
  refine Routing.scatter_set_miss _ B _ _ _ fun u hu => ?_
  obtain ⟨i', k', rfl⟩ : ∃ (i' : Fin 1024) (k' : Fin 128), u = ix2 i' k' := ⟨u 0, u 1, (ix2_eta u).symm⟩
  obtain ⟨ht', hs', -⟩ := (lands_good task slot hg i' k' t s k).mp hu
  exact h i' ⟨ht', hs'⟩

end Cert.ReferenceIdeal.Plain

end
-- ==== Proof.Same.lean ====
/-
  The idealized kernel and the reference end with the same bank.
-/
module

public import proofs.«01_k».proof.Defs
public import proofs.«01_k».proof.Proof.Frames
public import proofs.«01_k».proof.Proof.Near
public import proofs.«01_k».proof.Proof.Blend
public import proofs.«01_k».proof.Proof.Scatter
public import proofs.«01_k».proof.Proof.Gen.Pre_one_nearest
public import proofs.«01_k».proof.Proof.Gen.Pre_slots_ok

@[expose] public section

noncomputable section

namespace Cert.Same

open Cert.KernelIdeal Cert.KernelIdeal.Gen Cert.KernelIdeal.Rows
open Idealize.ShloMosaic Idealize.ShloMosaic.TcCoe Idealize.SL.Sem

variable (m : (ℓ : Loc nD τ sig) → Buf (Elt Ideal) ℓ)

/-- The bank's rows as one list: task and slot together. -/
theorem rows_cast (v : FVec Ideal S262144x128 .f32) (t : Fin 4) (s : Fin 65536) (k : Fin 128) :
    shapeCast S4x65536x128 v shapeCasts_S262144x128_S4x65536x128 (ix3 t s k) = v (ix2 (⟨t.val * 65536 + s.val, by omega⟩ : Fin 262144) k) := by
  pointwise

/-- The kernel's bank at the end is the reference's. -/
theorem bank_same (c : Dev nD) (hg : Slots.Good (m ((c : Thread nD τ).loc main_arg3)) (m ((c : Thread nD τ).loc main_arg4)))
    (hinj : ∀ t t', t ≠ t' → rowOf c (tab m c) t ≠ rowOf c (tab m c) t')
    (hX : Near.Finite (samplesOf m c)) (hC : Near.Finite (centersOf m c))
    (hb : ∀ i : Fin 1024, ∃ b, Near.Best (samplesOf m c) (centersOf m c) (tasksOf m c (ix1 i)).toNat i b) :
    shapeCast S4x65536x128 (final m c) shapeCasts_S262144x128_S4x65536x128
      = Cert.ReferenceIdeal.Plain.written (m ((c : Thread nD τ).loc main_arg0)) (m ((c : Thread nD τ).loc main_arg1)) (m ((c : Thread nD τ).loc main_arg2))
          (m ((c : Thread nD τ).loc main_arg3)) (m ((c : Thread nD τ).loc main_arg4)) := by
  have hrow := fun t => Slots.rowOf_tab m c _ _ rfl rfl hg t
  have hat : ∀ t : Fin 1024, Slots.sampleAt t.val t.isLt = ix1 t := by
    intro t; funext a; match a with | ⟨0, _⟩ => rfl
  have hlt := hg.slot
  funext x
  obtain ⟨t, s, k, rfl⟩ : ∃ (t : Fin 4) (s : Fin 65536) (k : Fin 128), x = ix3 t s k := ⟨x 0, x 1, x 2, (ix3_eta x).symm⟩
  rw [rows_cast]
  by_cases h : ∃ i : Fin 1024, (m ((c : Thread nD τ).loc main_arg3) (ix1 i)).toNat = t.val ∧ (m ((c : Thread nD τ).loc main_arg4) (ix1 i)).toNat = s.val
  · obtain ⟨i, ht, hs⟩ := h
    obtain ⟨b, hb⟩ := hb i
    rw [Cert.ReferenceIdeal.Plain.written_hit _ _ _ _ _ hg i t s k ht hs,
      Cert.ReferenceIdeal.Plain.blended_at _ _ hX hC _ i (hg.task _) b hb k,
      final_row m c hinj i _ (ix2 i k) (by rw [hrow, hat, ht, hs]; rfl) rfl rfl]
    exact rows_at m c hX hC i (hg.task _) b hb k
  · rw [Cert.ReferenceIdeal.Plain.written_miss _ _ _ _ _ hg t s k (fun i hi => h ⟨i, hi⟩), final_rest]
    · refine (rows_cast (bank m c) t s k).symm.trans ?_
      unfold bank
      rw [V₀_v6]
      exact congrFun (shapeCast_shapeCast _ _ _) _
    · intro i e
      rw [hrow, hat] at e
      have h3 := hlt (ix1 i)
      have hsl := s.isLt
      refine h ⟨i, ?_⟩
      have e' : (m ((c : Thread nD τ).loc main_arg3) (ix1 i)).toNat * 65536 + (m ((c : Thread nD τ).loc main_arg4) (ix1 i)).toNat = t.val * 65536 + s.val := e
      omega

/-- The value claim: over the precondition both programs run and end with the same bank. -/
theorem algebraic [Cert.Pre_slots_ok.Facts] [Cert.Pre_one_nearest.Facts] : Cert.algebraic_KernelIdeal_ReferenceIdeal_pre_one_nearest := by
  intro m g m' g' h hm
  have hg := Frames.goodNear m h
  refine ⟨fun c => shapeCast S4x65536x128 (final m c) shapeCasts_S262144x128_S4x65536x128, ?_, ?_⟩
  · exact θ_run_mono (run_kernel m g (Slots.rows_lt m hg) (Slots.rows_apart m hg)) fun r hr c => hr.1 c
  · refine θ_run_mono (Cert.ReferenceIdeal.Plain.run m' g') fun r hr c => ?_
    obtain ⟨hv, ha⟩ := hr c
    refine ⟨hv.trans ?_, ha⟩
    obtain ⟨e0, e1, e2, e3, e4⟩ := hm c
    rw [e0, e1, e2, e3, e4]
    have hX : Near.Finite (samplesOf m c) := Near.features _ _ _ _ _ (h c).2.2.1
    have hC : Near.Finite (centersOf m c) := Near.centers _ _ _ _ _ _ rfl (h c).2.2.2.1
    exact (bank_same m c (hg c) (Slots.rows_apart m hg c) hX hC fun i =>
      Near.single_at _ _ _ _ _ _ rfl (h c).2.2.2.2 hX hC i ((hg c).task _)).symm

end Cert.Same

end
-- ==== Proof.lean ====
/-
  The proof of the claims stated in `Defs.lean`: the kernel, its idealization and the reference run and leave their
  arguments as they were, every semaphore at zero; the idealization's named constant is the mask's literal; and the
  idealization and the reference end with the same bank.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_slots_ok
public import proofs.«01_k».proof.Proof.Gen.Pre_one_nearest
public import proofs.«01_k».proof.Proof.Frames
public import proofs.«01_k».proof.Proof.Ref
public import proofs.«01_k».proof.Proof.Same

@[expose] public section

noncomputable section

namespace Cert.Proof

open Idealize.ShloMosaic

/-- Every claim of `Defs.lean`. -/
theorem claim : Cert.Claim :=
  ⟨Cert.Kernel.Gen.facts, Cert.KernelIdeal.Gen.facts, Cert.ReferenceIdeal.Gen.facts, Cert.Pre_slots_ok.Gen.facts, Cert.Pre_one_nearest.Gen.facts,
    Cert.Frames.kernel, Cert.Frames.kernelIdeal, Cert.Frames.kernelIdeal_near, Cert.ReferenceIdeal.Plain.frame, Cert.ReferenceIdeal.Plain.frame_near,
    IdealRules.named_const.statement Cert.KernelIdeal.κ "mask" .f32 0x4E6E6B28#32 ⊤ rfl, Cert.Same.algebraic⟩

end Cert.Proof

end
